-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x576x32 : Shape := ⟨3, ![8, 576, 32]⟩
abbrev S32x8192 : Shape := ⟨2, ![32, 8192]⟩
abbrev S4608x32 : Shape := ⟨2, ![4608, 32]⟩
abbrev S1x1 : Shape := ⟨2, ![1, 1]⟩
abbrev S384x32 : Shape := ⟨2, ![384, 32]⟩
abbrev S2x384x8192 : Shape := ⟨3, ![2, 384, 8192]⟩
abbrev S8192 : Shape := ⟨1, ![8192]⟩
abbrev S1x8192 : Shape := ⟨2, ![1, 8192]⟩
abbrev S384x8192 : Shape := ⟨2, ![384, 8192]⟩
abbrev S1x384x8192 : Shape := ⟨3, ![1, 384, 8192]⟩
abbrev S384x2048 : Shape := ⟨2, ![384, 2048]⟩
abbrev S384 : Shape := ⟨1, ![384]⟩
abbrev S384x1 : Shape := ⟨2, ![384, 1]⟩
abbrev S384x10 : Shape := ⟨2, ![384, 10]⟩
abbrev S8192x8 : Shape := ⟨2, ![8192, 8]⟩
abbrev S384x8 : Shape := ⟨2, ![384, 8]⟩
abbrev S1x384x8 : Shape := ⟨3, ![1, 384, 8]⟩
abbrev S1 : Shape := ⟨1, ![1]⟩
abbrev S1x1x1 : Shape := ⟨3, ![1, 1, 1]⟩
abbrev S8192x32 : Shape := ⟨2, ![8192, 32]⟩
abbrev S1x384x32 : Shape := ⟨3, ![1, 384, 32]⟩
abbrev S_ : Shape := ⟨0, ![]⟩

abbrev nBuf : Space → Nat
  | .hbm => 21
  | .vmem => 22
  | .smem => 0
  | _ => 0

abbrev bufTy : (tb : Table) → Fin (tcTables nBuf tb) → BufTy
  | .hbm, ⟨0, _⟩ => ⟨S8x576x32, .f32⟩
  | .hbm, ⟨1, _⟩ => ⟨S32x8192, .f32⟩
  | .hbm, ⟨2, _⟩ => ⟨S4608x32, .f32⟩
  | .hbm, ⟨3, _⟩ => ⟨S4608x32, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .i32⟩
  | .hbm, ⟨10, _⟩ => ⟨S4608x32, .f32⟩
  | .hbm, ⟨11, _⟩ => ⟨S1x1, .f32⟩
  | .hbm, ⟨12, _⟩ => ⟨S4608x32, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x576x32, .f32⟩
  | .local _ .vmem, ⟨0, _⟩ => ⟨S384x32, .f32⟩
  | .local _ .vmem, ⟨1, _⟩ => ⟨S384x32, .f32⟩
  | .local _ .vmem, ⟨2, _⟩ => ⟨S384x32, .f32⟩
  | .local _ .vmem, ⟨3, _⟩ => ⟨S384x32, .f32⟩
  | .local _ .vmem, ⟨4, _⟩ => ⟨S32x8192, .f32⟩
  | .local _ .vmem, ⟨5, _⟩ => ⟨S384x32, .f32⟩
  | .local _ .vmem, ⟨6, _⟩ => ⟨S384x32, .f32⟩
  | .local _ .vmem, ⟨7, _⟩ => ⟨S1x1, .f32⟩
  | .local _ .vmem, ⟨8, _⟩ => ⟨S1x1, .f32⟩
  | .local _ .vmem, ⟨9, _⟩ => ⟨S2x384x8192, .f32⟩
  | .local _ .vmem, ⟨10, _⟩ => ⟨S32x8192, .f32⟩
  | .local _ .vmem, ⟨11, _⟩ => ⟨S384x32, .f32⟩
  | .local _ .vmem, ⟨12, _⟩ => ⟨S384x32, .f32⟩
  | .local _ .vmem, ⟨13, _⟩ => ⟨S384x32, .f32⟩
  | .local _ .vmem, ⟨14, _⟩ => ⟨S384x32, .f32⟩
  | .local _ .vmem, ⟨15, _⟩ => ⟨S32x8192, .f32⟩
  | .local _ .vmem, ⟨16, _⟩ => ⟨S384x32, .f32⟩
  | .local _ .vmem, ⟨17, _⟩ => ⟨S384x32, .f32⟩
  | .local _ .vmem, ⟨18, _⟩ => ⟨S1x1, .f32⟩
  | .local _ .vmem, ⟨19, _⟩ => ⟨S1x1, .f32⟩
  | .local _ .vmem, ⟨20, _⟩ => ⟨S2x384x8192, .f32⟩
  | .local _ .vmem, ⟨21, _⟩ => ⟨S32x8192, .f32⟩
  | _, _ => ⟨S8x576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_case0b1_v10_0 : Ref sig .tc := ⟨.hbm, 12, rfl⟩
abbrev main_case0b1_v10_1 : Ref sig .tc := ⟨.hbm, 13, rfl⟩
abbrev main_case0b1_v10_2 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c12_i32 : BitVec 32 := 12#32
  let v5 : BitVec 1 := Scalar.cmpi .slt v4 c12_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_59 : BitVec 32 := 1#32
  let v150 : BitVec 32 := Scalar.addi arg0 c1_i32_59
  let c2_i32_60 : BitVec 32 := 2#32
  let c0_i32_61 : BitVec 32 := 0#32
  let v151 : BitVec 1 := Scalar.cmpi .eq c2_i32_60 c0_i32_61
  let c1_i32_62 : BitVec 32 := 1#32
  let v152 : BitVec 32 := Scalar.select v151 c1_i32_62 c2_i32_60
  let v153 : BitVec 32 := Scalar.remsi v150 v152
  let c0_i32_64 : BitVec 32 := 0#32
  let v155 : BitVec 1 := Scalar.cmpi .slt v153 c0_i32_64
  let c0_i32_65 : BitVec 32 := 0#32
  let v156 : BitVec 1 := Scalar.cmpi .slt v152 c0_i32_65
  let v157 : BitVec 1 := Scalar.xori v155 v156
  let c0_i32_63 : BitVec 32 := 0#32
  let v154 : BitVec 1 := Scalar.cmpi .ne v153 c0_i32_63
  let v158 : BitVec 1 := Scalar.andi v157 v154
  let v159 : BitVec 32 := Scalar.addi v153 v152
  let v160 : BitVec 32 := Scalar.select v158 v159 v153
  let v161 : Index := Scalar.indexCast v160
  let c0_66 : Index := 0#32
  let c0_67 : Index := 0#32
  ![v161.toNat, 0, 0]
def k0_off2 (i : grid0.Coords) : Fin 3 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v18 : Index := Scalar.indexCast v17
  let c0_8 : Index := 0#32
  let c0_9 : Index := 0#32
  ![v18.toNat, 0, 0]
def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let c0_i32 : BitVec 32 := 0#32
  let v1 : BitVec 1 := Scalar.cmpi .eq c12_i32 c0_i32
  let c1_i32_0 : BitVec 32 := 1#32
  let v2 : BitVec 32 := Scalar.select v1 c1_i32_0 c12_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![12], ![false]⟩

def k1_cond2 (i : grid1.Coords) : BitVec 1 :=
  let arg0 : BitVec 32 := BitVec.ofNat 32 (i 0).val
  let c1_i32 : BitVec 32 := 1#32
  let v4 : BitVec 32 := Scalar.addi arg0 c1_i32
  let c12_i32 : BitVec 32 := 12#32
  let v5 : BitVec 1 := Scalar.cmpi .slt v4 c12_i32
  let v6 : BitVec 32 := Scalar.extui v5
  let c0_i32_2 : BitVec 32 := 0#32
  let v7 : BitVec 1 := Scalar.cmpi .ne v6 c0_i32_2
  v7

def k1_off1 (i : grid1.Coords) : Fin 3 → Nat :=
  let arg0 : BitVec 32 := BitVec.ofNat 32 (i 0).val
  let c1_i32_55 : BitVec 32 := 1#32
  let v125 : BitVec 32 := Scalar.addi arg0 c1_i32_55
  let c2_i32_56 : BitVec 32 := 2#32
  let c0_i32_57 : BitVec 32 := 0#32
  let v126 : BitVec 1 := Scalar.cmpi .eq c2_i32_56 c0_i32_57
  let c1_i32_58 : BitVec 32 := 1#32
  let v127 : BitVec 32 := Scalar.select v126 c1_i32_58 c2_i32_56
  let v128 : BitVec 32 := Scalar.remsi v125 v127
  let c0_i32_60 : BitVec 32 := 0#32
  let v130 : BitVec 1 := Scalar.cmpi .slt v128 c0_i32_60
  let c0_i32_61 : BitVec 32 := 0#32
  let v131 : BitVec 1 := Scalar.cmpi .slt v127 c0_i32_61
  let v132 : BitVec 1 := Scalar.xori v130 v131
  let c0_i32_59 : BitVec 32 := 0#32
  let v129 : BitVec 1 := Scalar.cmpi .ne v128 c0_i32_59
  let v133 : BitVec 1 := Scalar.andi v132 v129
  let v134 : BitVec 32 := Scalar.addi v128 v127
  let v135 : BitVec 32 := Scalar.select v133 v134 v128
  let v136 : Index := Scalar.indexCast v135
  let c0_62 : Index := 0#32
  let c0_63 : Index := 0#32
  ![v136.toNat, 0, 0]
def k1_off2 (i : grid1.Coords) : Fin 3 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v18 : Index := Scalar.indexCast v17
  let c0_8 : Index := 0#32
  let c0_9 : Index := 0#32
  ![v18.toNat, 0, 0]
def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let c0_i32 : BitVec 32 := 0#32
  let v1 : BitVec 1 := Scalar.cmpi .eq c12_i32 c0_i32
  let c1_i32_0 : BitVec 32 := 1#32
  let v2 : BitVec 32 := Scalar.select v1 c1_i32_0 c12_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S384x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S384x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S384x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S8x576x32 : Shape := ⟨3, ![8, 576, 32]⟩
abbrev S32x8192 : Shape := ⟨2, ![32, 8192]⟩
abbrev S_ : Shape := ⟨0, ![]⟩
abbrev S8192 : Shape := ⟨1, ![8192]⟩
abbrev S1x8192 : Shape := ⟨2, ![1, 8192]⟩
abbrev S4608x32 : Shape := ⟨2, ![4608, 32]⟩
abbrev S32x4608 : Shape := ⟨2, ![32, 4608]⟩
abbrev S8192x32 : Shape := ⟨2, ![8192, 32]⟩
abbrev S8192x4608 : Shape := ⟨2, ![8192, 4608]⟩
abbrev S4608x8192 : Shape := ⟨2, ![4608, 8192]⟩
abbrev S4608x5 : Shape := ⟨2, ![4608, 5]⟩
abbrev S4608x5x1 : Shape := ⟨3, ![4608, 5, 1]⟩
abbrev S1 : Shape := ⟨1, ![1]⟩
abbrev S1x1x1 : Shape := ⟨3, ![1, 1, 1]⟩
abbrev S4608 : Shape := ⟨1, ![4608]⟩
abbrev S4608x1 : Shape := ⟨2, ![4608, 1]⟩
abbrev S4608x5x2 : Shape := ⟨3, ![4608, 5, 2]⟩

abbrev nBuf : Space → Nat
  | .hbm => 85
  | .vmem => 0
  | .smem => 0
  | _ => 0

abbrev bufTy : (tb : Table) → Fin (tcTables nBuf tb) → BufTy
  | .hbm, ⟨0, _⟩ => ⟨S8x576x32, .f32⟩
  | .hbm, ⟨1, _⟩ => ⟨S32x8192, .f32⟩
  | .hbm, ⟨2, _⟩ => ⟨S32x8192, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .f32⟩
  | .hbm, ⟨10, _⟩ => ⟨S32x8192, .f32⟩
  | .hbm, ⟨11, _⟩ => ⟨S32x8192, .f32⟩
  | .hbm, ⟨12, _⟩ => ⟨S4608x32, .f32⟩
  | .hbm, ⟨13, _⟩ => ⟨S32x4608, .f32⟩
  | .hbm, ⟨14, _⟩ => ⟨S8192x32, .f32⟩
  | .hbm, ⟨15, _⟩ => ⟨S8192x4608, .f32⟩
  | .hbm, ⟨16, _⟩ => ⟨S4608x8192, .f32⟩
  | .hbm, ⟨17, _⟩ => ⟨S4608x8192, .f32⟩
  | .hbm, ⟨18, _⟩ => ⟨S4608x5, .f32⟩
  | .hbm, ⟨19, _⟩ => ⟨S4608x5, .i32⟩
  | .hbm, ⟨20, _⟩ => ⟨S_, .i32⟩
  | .hbm, ⟨21, _⟩ => ⟨S4608x5, .i32⟩
  | .hbm, ⟨22, _⟩ => ⟨S4608x5, .i1⟩
  | .hbm, ⟨23, _⟩ => ⟨S_, .i32⟩
  | .hbm, ⟨24, _⟩ => ⟨S4608x5, .i32⟩
  | .hbm, ⟨25, _⟩ => ⟨S4608x5, .i32⟩
  | .hbm, ⟨26, _⟩ => ⟨S4608x5, .i32⟩
  | .hbm, ⟨27, _⟩ => ⟨S4608x5x1, .i32⟩
  | .hbm, ⟨28, _⟩ => ⟨S1, .i32⟩
  | .hbm, ⟨29, _⟩ => ⟨S_, .i32⟩
  | .hbm, ⟨30, _⟩ => ⟨S4608x5x1, .i32⟩
  | .hbm, ⟨31, _⟩ => ⟨S4608x5x1, .i1⟩
  | .hbm, ⟨32, _⟩ => ⟨S1x1x1, .i32⟩
  | .hbm, ⟨33, _⟩ => ⟨S4608x5x1, .i32⟩
  | .hbm, ⟨34, _⟩ => ⟨S4608x5x1, .i1⟩
  | .hbm, ⟨35, _⟩ => ⟨S4608x5x1, .i1⟩
  | .hbm, ⟨36, _⟩ => ⟨S_, .i1⟩
  | .hbm, ⟨37, _⟩ => ⟨S4608x5, .i1⟩
  | .hbm, ⟨38, _⟩ => ⟨S4608x5, .f32⟩
  | .hbm, ⟨39, _⟩ => ⟨S_, .f32⟩
  | .hbm, ⟨40, _⟩ => ⟨S4608x5, .f32⟩
  | .hbm, ⟨41, _⟩ => ⟨S4608x5, .f32⟩
  | .hbm, ⟨42, _⟩ => ⟨S_, .f32⟩
  | .hbm, ⟨43, _⟩ => ⟨S4608x8192, .f32⟩
  | .hbm, ⟨44, _⟩ => ⟨S4608, .i32⟩
  | .hbm, ⟨45, _⟩ => ⟨S4608x1, .i32⟩
  | .hbm, ⟨46, _⟩ => ⟨S_, .i32⟩
  | .hbm, ⟨47, _⟩ => ⟨S4608x1, .i32⟩
  | .hbm, ⟨48, _⟩ => ⟨S4608x1, .i1⟩
  | .hbm, ⟨49, _⟩ => ⟨S_, .i32⟩
  | .hbm, ⟨50, _⟩ => ⟨S4608x1, .i32⟩
  | .hbm, ⟨51, _⟩ => ⟨S4608x1, .i32⟩
  | .hbm, ⟨52, _⟩ => ⟨S4608x1, .i32⟩
  | .hbm, ⟨53, _⟩ => ⟨S_, .i32⟩
  | .hbm, ⟨54, _⟩ => ⟨S4608x5, .i32⟩
  | .hbm, ⟨55, _⟩ => ⟨S4608x5, .i1⟩
  | .hbm, ⟨56, _⟩ => ⟨S_, .i32⟩
  | .hbm, ⟨57, _⟩ => ⟨S4608x5, .i32⟩
  | .hbm, ⟨58, _⟩ => ⟨S4608x5, .i32⟩
  | .hbm, ⟨59, _⟩ => ⟨S4608x5, .i32⟩
  | .hbm, ⟨60, _⟩ => ⟨S4608x5, .i32⟩
  | .hbm, ⟨61, _⟩ => ⟨S4608x5x1, .i32⟩
  | .hbm, ⟨62, _⟩ => ⟨S4608x5x1, .i32⟩
  | .hbm, ⟨63, _⟩ => ⟨S4608x5x2, .i32⟩
  | .hbm, ⟨64, _⟩ => ⟨S4608x8192, .f32⟩
  | .hbm, ⟨65, _⟩ => ⟨S8192x32, .f32⟩
  | .hbm, ⟨66, _⟩ => ⟨S4608x32, .f32⟩
  | .hbm, ⟨67, _⟩ => ⟨S8x576x32, .f32⟩
  | .hbm, ⟨68, _⟩ => ⟨S8x576x32, .f32⟩
  | .hbm, ⟨69, _⟩ => ⟨S8x576x32, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x576x32, .f32⟩
  | .hbm, ⟨75, _⟩ => ⟨S8x576x32, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8x576x32, .f32⟩
  | .hbm, ⟨84, _⟩ => ⟨S8x576x32, .f32⟩
  | _, _ => ⟨S8x576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v11 : Ref sig .tc := ⟨.hbm, 41, rfl⟩
abbrev main_cst_0 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_2 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_6 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]
-- ==== Proof.Base.lean ====
/-
  What both calls' proofs share: the resource algebra, buffers held whole, and a half of the double buffer of
  correlation blocks.
-/
module

public import proofs.«01_k».proof.Proof.Gen.KernelIdeal.Launch
public import proofs.«01_k».proof.Proof.Gen.KernelIdeal.Skeleton
public import Idealize.ShloMosaic.Lib.Pipeline.RegionsCase
public import Idealize.ShloMosaic.Lib.Tactic
public import Idealize.ShloMosaic.Lib.VecWindow
public import Idealize.ShloMosaic.Lib.WritesUnit

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One copy of the pipelines' algebra for each of the two calls, beside the transfers' counters. -/
abbrev UU : Type := IProdConst (Fin 2) (UR sig nD τ) × Counters

local notation "𝕄" => MT nD τ sig Unit (Elt F) ℕ UU ℕ

/-- Contents of memref `M`'s buffer on core `c`. -/
abbrev Bf (c : Dev nD) {sp : Space} {S : Shape} {e : EltTy} (M : Memref sig .tc sp S e) : Type := Buf (Elt F) (M.view.loc (c : Thread nD τ))

/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- A half of the double buffer lies inside it. -/
theorem slot_inb (n : ℕ) : ∀ a, (![n % 2, 0, 0] : Fin 3 → ℕ) a + S1x384x8192.size a ≤ S2x384x8192.size a := by
  intro a
  fin_cases a
  · show n % 2 + 1 ≤ 2; omega
  · show 0 + 384 ≤ 384; omega
  · show 0 + 8192 ≤ 8192; omega

/-- The half of the double buffer that block `n` goes to. -/
def slotOf (X : Vec F S2x384x8192 .f32) (n : ℕ) : Vec F S1x384x8192 .f32 :=
  VecWindow.window X ![n % 2, 0, 0] S1x384x8192.size (slot_inb n)

/-- A load of a half reads that half. -/
theorem readAt_slot {sig : RefSig} {κ : Kind} {sp : Space} (v : View sig κ sp S2x384x8192 .f32) (f : v.ty.Contents (Elt F)) {n : ℕ}
    {off : Fin 3 → ℕ} (h : off = ![n % 2, 0, 0]) (inb : ∀ a, off a + S1x384x8192.size a ≤ S2x384x8192.size a) :
    v.readAt (Elt F) (Rect.unit (s := S2x384x8192) off S1x384x8192.size inb).toLoadRect f = slotOf (v.read (Elt F) f) n :=
  View.readAt_unit v f inb h (slot_inb n)

/-- After a store of a half, that half holds the payload. -/
theorem slotOf_same {sig : RefSig} {κ : Kind} {sp : Space} (v : View sig κ sp S2x384x8192 .f32) (f : v.ty.Contents (Elt F)) {n : ℕ}
    {off : Fin 3 → ℕ} (h : off = ![n % 2, 0, 0]) (inb : ∀ a, off a + S1x384x8192.size a ≤ S2x384x8192.size a)
    (w : Vec F S1x384x8192 .f32) (L : List (View.Piece (Elt F) S2x384x8192 .f32)) :
    slotOf (v.read (Elt F) (v.writes (Elt F) f (⟨Rect.unit (s := S2x384x8192) off S1x384x8192.size inb, w⟩ :: L))) n = w := by
  subst h
  rw [← readAt_slot v _ rfl inb]
  funext x
  exact View.read_writes_cons_emb v f (Rect.unit (s := S2x384x8192) ![n % 2, 0, 0] S1x384x8192.size inb) w L x

/-- After a store of a half, the other half holds what it held. -/
theorem slotOf_other {sig : RefSig} {κ : Kind} {sp : Space} (v : View sig κ sp S2x384x8192 .f32) (f : v.ty.Contents (Elt F)) {n : ℕ}
    {off : Fin 3 → ℕ} (h : off = ![n % 2, 0, 0]) (inb : ∀ a, off a + S1x384x8192.size a ≤ S2x384x8192.size a)
    (w : Vec F S1x384x8192 .f32) (L : List (View.Piece (Elt F) S2x384x8192 .f32)) {m : ℕ} (hm : m % 2 ≠ n % 2) :
    slotOf (v.read (Elt F) (v.writes (Elt F) f (⟨Rect.unit (s := S2x384x8192) off S1x384x8192.size inb, w⟩ :: L))) m
      = slotOf (v.read (Elt F) (v.writes (Elt F) f L)) m := by
  subst h
  funext x
  refine View.read_writes_cons_unit_of_not_mem v f inb w L _ rfl (a := (0 : Fin 3)) ?_
  have hx : (x 0).val = 0 := by have := (x 0).isLt; change (x 0).val < 1 at this; omega
  show m % 2 + 1 * (x 0).val < n % 2 ∨ n % 2 + 1 ≤ m % 2 + 1 * (x 0).val
  omega
/-- Contents for a call that a segment does not run. -/
def junkDat {cfg : Pipeline.Cfg sig Λ₀} (c : Dev nD) : Pipeline.Dat τ (Elt F) Unit ℕ UU ℕ cfg c where
  A _ := fun _ => Classical.arbitrary _
  after _ _ := fun _ => Classical.arbitrary _
  Φ _ := BI.emp
  q _ := fullShare
  owed _ := 0

/-- No call has a prefetched table. -/
abbrev adm : (p : Fin 2) → (pcfgs (F := F) p).Adm := fun p => (cfgs p).toPCfg_adm
/-- No core owes another anything, so no level is assigned. -/
abbrev L : GSem nD τ sig → Finset Unit := fun _ => ∅
/-- No semaphore is waited on: every level is zero. -/
abbrev lv : GSem nD τ sig → Unit → ℕ := fun _ _ => 0
end Cert.KernelIdeal.Hand
end
-- ==== Proof.Body0.lean ====
/-
  The body of the first call at one grid point, in its three cases: the first point (which normalises the
  dictionary and computes the first block of correlations itself), a middle point, and the last point (which computes
  no block ahead). Each is stated over the contents of the staging buffers and of the two scratch buffers.
-/
module

public import proofs.«01_k».proof.Proof.Base
public import proofs.«01_k».proof.Proof.Gen.KernelIdeal.Points

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The marked entries of a block of correlations: those at least the fifth threshold of the row's candidates. -/
def mk0 (b : Vec F S1x384x8192 .f32) : IVec S384x8192 1 :=
  k0_pay27 (k0_pay10 b) (k0_pay25 (k0_pay19 b) (k0_pay20 b) (k0_pay21 b) (k0_pay22 b) (k0_pay23 b) (k0_pay24 b))
    (k0_pay26 (k0_pay19 b) (k0_pay20 b) (k0_pay21 b) (k0_pay22 b) (k0_pay23 b) (k0_pay24 b))
/-- The first result's block: the rows plus what reconstruction from the marked entries differs by. -/
def qB0 (dn : Vec F S32x8192 .f32) (b : Vec F S1x384x8192 .f32) (x : Vec F S384x32 .f32) : Vec F S384x32 .f32 :=
  k0_pay3 dn (k0_pay10 b) (mk0 b) x
/-- The loss after a block, from the loss before it. -/
def lB0 (dn : Vec F S32x8192 .f32) (b : Vec F S1x384x8192 .f32) (x : Vec F S384x32 .f32) (l : Vec F S1x1 .f32) : Vec F S1x1 .f32 :=
  k0_pay4 dn (k0_pay10 b) (mk0 b) x l
/-- The count of marks beyond five a row after a block, from the count before it. -/
def cB0 (b : Vec F S1x384x8192 .f32) (n : Vec F S1x1 .f32) : Vec F S1x1 .f32 :=
  k0_pay28 (k0_pay10 b) (k0_pay25 (k0_pay19 b) (k0_pay20 b) (k0_pay21 b) (k0_pay22 b) (k0_pay23 b) (k0_pay24 b))
    (k0_pay26 (k0_pay19 b) (k0_pay20 b) (k0_pay21 b) (k0_pay22 b) (k0_pay23 b) (k0_pay24 b)) n

/-- The half written ahead at point `i`. -/
theorem k0_off1_eq : ∀ i : grid0.Coords, k0_off1 i = ![((i 0).val + 1) % 2, 0, 0] := by decide +kernel
/-- The half read at point `i`. -/
theorem k0_off2_eq : ∀ i : grid0.Coords, k0_off2 i = ![(i 0).val % 2, 0, 0] := by decide +kernel
/-- The offset of the half that is written, in closed form. -/
instance (i : grid0.Coords) : ClosedOff (k0_off1 i) := ⟨![((i 0).val + 1) % 2, 0, 0], k0_off1_eq i⟩
/-- The offset of the half that is read, in closed form. -/
instance (i : grid0.Coords) : ClosedOff (k0_off2 i) := ⟨![(i 0).val % 2, 0, 0], k0_off2_eq i⟩

/-- The word that asks whether point `i` is the first. -/
abbrev fst0 (i : grid0.Coords) : BitVec 1 :=
  Scalar.cmpi .ne (Scalar.extui (Scalar.cmpi .eq (BitVec.ofNat 32 (i 0).val) 0#32) : BitVec 32) 0#32

section
variable (c : Dev nD) (i : grid0.Coords)
  (arg1 : Memref sig .tc .vmem S384x32 .f32) (harg1 : arg1.IsWhole) (arg2 : Memref sig .tc .vmem S384x32 .f32) (harg2 : arg2.IsWhole)
  (arg3 : Memref sig .tc .vmem S32x8192 .f32) (harg3 : arg3.IsWhole) (arg4 : Memref sig .tc .vmem S384x32 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S2x384x8192 .f32) (harg7 : arg7.IsWhole) (arg8 : Memref sig .tc .vmem S32x8192 .f32) (harg8 : arg8.IsWhole)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)

/-- The first point: from any scratch contents. -/
theorem body0_first (h1 : fst0 i = 1#1) (h2 : k0_cond2 i = 1#1) (hi : (i 0).val = 0) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6 g7 g8, iprop(⌜arg4.view.read (Elt F) g4 = qB0 (k0_pay5 (arg3.view.read (Elt F) f3)) (k0_pay8 (arg2.view.read (Elt F) f2) (k0_pay5 (arg3.view.read (Elt F) f3))) (arg2.view.read (Elt F) f2)
          ∧ arg5.view.read (Elt F) g5 = lB0 (k0_pay5 (arg3.view.read (Elt F) f3)) (k0_pay8 (arg2.view.read (Elt F) f2) (k0_pay5 (arg3.view.read (Elt F) f3))) (arg2.view.read (Elt F) f2) k0_pay6
          ∧ arg6.view.read (Elt F) g6 = cB0 (k0_pay8 (arg2.view.read (Elt F) f2) (k0_pay5 (arg3.view.read (Elt F) f3))) k0_pay7
          ∧ slotOf (arg7.view.read (Elt F) g7) ((i 0).val + 1) = k0_pay9 (k0_pay5 (arg3.view.read (Elt F) f3)) (arg1.view.read (Elt F) f1)
          ∧ arg8.view.read (Elt F) g8 = k0_pay5 (arg3.view.read (Elt F) f3)⌝ ∗
          pt c arg1 f1 ∗ pt c arg2 f2 ∗ pt c arg3 f3 ∗ pt c arg4 g4 ∗ pt c arg5 g5 ∗ pt c arg6 g6 ∗ pt c arg7 g7 ∗ pt c arg8 g8) -∗ Q ⟨⟩))
     ⊢ wp frame (wpE (defs₀ (F := F)) Variants.none c none) E (cc0__body i arg1 harg1 arg2 harg2 arg3 harg3 arg4 harg4 arg5 harg5 arg6 harg6 arg7 harg7 arg8 harg8) Q := by
  rw [cc0__body_eq_skeleton]
  unfold cc0__body_skel
  rw [k0_part1_eq_skeleton, k0_part2_eq_skeleton, k0_part3_eq_skeleton]
  unfold k0_part1_skel k0_part2_skel k0_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hd : body0_first.sl.v165 c arg3 arg8 f3 = k0_pay5 (arg3.view.read (Elt F) f3) := by
      unfold body0_first.sl.v165 body0_first.sl.H8_1
      rw [View.readCov_full, View.readAt_full]
    have hl : body0_first.sl.v137 (F := F) arg5 = k0_pay6 := by
      unfold body0_first.sl.v137 body0_first.sl.H5_1
      rw [View.readCov_full]
    have hc : body0_first.sl.v122 (F := F) arg6 = k0_pay7 := by
      unfold body0_first.sl.v122 body0_first.sl.H6_1
      rw [View.readCov_full]
    have hs : View.readAt (Elt F) arg7.view (Rect.unit (s := S2x384x8192) (k0_off2 i) S1x384x8192.size (k0_off2_inb i)).toLoadRect
        (arg7.view.writes (Elt F) f7 (body0_first.sl.H7_2 c i arg1 arg2 arg3 arg8 f1 f2 f3 h2))
        = k0_pay8 (arg2.view.read (Elt F) f2) (k0_pay5 (arg3.view.read (Elt F) f3)) := by
      rw [readAt_slot arg7.view _ (k0_off2_eq i)]
      unfold body0_first.sl.H7_2
      rw [slotOf_other _ _ (k0_off1_eq i) _ _ _ (by omega), hi, slotOf_same _ _ (n := 0) rfl, hd, View.readAt_full]
    refine ⟨?_, ?_, ?_, ?_, ?_⟩
    · unfold body0_first.sl.H4_1
      rw [View.read_writes_full, hs, hd, View.readAt_full]; rfl
    · unfold body0_first.sl.H5_2
      rw [View.read_writes_full, hs, hd, hl, View.readAt_full]; rfl
    · unfold body0_first.sl.H6_2
      rw [View.read_writes_full, hs, hc]; rfl
    · unfold body0_first.sl.H7_2
      rw [slotOf_same _ _ (k0_off1_eq i), hd, View.readAt_full]
    · unfold body0_first.sl.H8_1
      rw [View.read_writes_full, View.readAt_full]

/-- A middle point: the half read holds the block computed at the point before. -/
theorem body0_mid (h1 : ¬ fst0 i = 1#1) (h2 : k0_cond2 i = 1#1) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6 g7, iprop(⌜arg4.view.read (Elt F) g4 = qB0 (arg8.view.read (Elt F) f8) (slotOf (arg7.view.read (Elt F) f7) (i 0).val) (arg2.view.read (Elt F) f2)
          ∧ arg5.view.read (Elt F) g5 = lB0 (arg8.view.read (Elt F) f8) (slotOf (arg7.view.read (Elt F) f7) (i 0).val) (arg2.view.read (Elt F) f2) (arg5.view.read (Elt F) f5)
          ∧ arg6.view.read (Elt F) g6 = cB0 (slotOf (arg7.view.read (Elt F) f7) (i 0).val) (arg6.view.read (Elt F) f6)
          ∧ slotOf (arg7.view.read (Elt F) g7) ((i 0).val + 1) = k0_pay9 (arg8.view.read (Elt F) f8) (arg1.view.read (Elt F) f1)⌝ ∗
          pt c arg1 f1 ∗ pt c arg2 f2 ∗ pt c arg3 f3 ∗ pt c arg4 g4 ∗ pt c arg5 g5 ∗ pt c arg6 g6 ∗ pt c arg7 g7 ∗ pt c arg8 f8) -∗ Q ⟨⟩))
     ⊢ wp frame (wpE (defs₀ (F := F)) Variants.none c none) E (cc0__body i arg1 harg1 arg2 harg2 arg3 harg3 arg4 harg4 arg5 harg5 arg6 harg6 arg7 harg7 arg8 harg8) Q := by
  rw [cc0__body_eq_skeleton]
  unfold cc0__body_skel
  rw [k0_part1_eq_skeleton, k0_part2_eq_skeleton, k0_part3_eq_skeleton]
  unfold k0_part1_skel k0_part2_skel k0_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hs : View.readAt (Elt F) arg7.view (Rect.unit (s := S2x384x8192) (k0_off2 i) S1x384x8192.size (k0_off2_inb i)).toLoadRect
        (arg7.view.writes (Elt F) f7 (body0_mid.sl.H7_1 c i arg1 arg8 f1 f8 h2)) = slotOf (arg7.view.read (Elt F) f7) (i 0).val := by
      rw [readAt_slot arg7.view _ (k0_off2_eq i)]
      unfold body0_mid.sl.H7_1
      rw [slotOf_other _ _ (k0_off1_eq i) _ _ _ (by omega), View.writes_nil]
    refine ⟨?_, ?_, ?_, ?_⟩
    · unfold body0_mid.sl.H4_1
      rw [View.read_writes_full, hs, View.readAt_full, View.readAt_full]; rfl
    · unfold body0_mid.sl.H5_1
      rw [View.read_writes_full, hs, View.readAt_full, View.readAt_full, View.readAt_full]; rfl
    · unfold body0_mid.sl.H6_1
      rw [View.read_writes_full, hs, View.readAt_full]; rfl
    · unfold body0_mid.sl.H7_1
      rw [slotOf_same _ _ (k0_off1_eq i), View.readAt_full, View.readAt_full]

/-- The last point: nothing is computed ahead. -/
theorem body0_last (h1 : ¬ fst0 i = 1#1) (h2 : ¬ k0_cond2 i = 1#1) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6, iprop(⌜arg4.view.read (Elt F) g4 = qB0 (arg8.view.read (Elt F) f8) (slotOf (arg7.view.read (Elt F) f7) (i 0).val) (arg2.view.read (Elt F) f2)
          ∧ arg5.view.read (Elt F) g5 = lB0 (arg8.view.read (Elt F) f8) (slotOf (arg7.view.read (Elt F) f7) (i 0).val) (arg2.view.read (Elt F) f2) (arg5.view.read (Elt F) f5)
          ∧ arg6.view.read (Elt F) g6 = cB0 (slotOf (arg7.view.read (Elt F) f7) (i 0).val) (arg6.view.read (Elt F) f6)⌝ ∗
          pt c arg1 f1 ∗ pt c arg2 f2 ∗ pt c arg3 f3 ∗ pt c arg4 g4 ∗ pt c arg5 g5 ∗ pt c arg6 g6 ∗ pt c arg7 f7 ∗ pt c arg8 f8) -∗ Q ⟨⟩))
     ⊢ wp frame (wpE (defs₀ (F := F)) Variants.none c none) E (cc0__body i arg1 harg1 arg2 harg2 arg3 harg3 arg4 harg4 arg5 harg5 arg6 harg6 arg7 harg7 arg8 harg8) Q := by
  rw [cc0__body_eq_skeleton]
  unfold cc0__body_skel
  rw [k0_part1_eq_skeleton, k0_part2_eq_skeleton, k0_part3_eq_skeleton]
  unfold k0_part1_skel k0_part2_skel k0_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hs : View.readAt (Elt F) arg7.view (Rect.unit (s := S2x384x8192) (k0_off2 i) S1x384x8192.size (k0_off2_inb i)).toLoadRect f7
        = slotOf (arg7.view.read (Elt F) f7) (i 0).val := readAt_slot arg7.view _ (k0_off2_eq i) _
    refine ⟨?_, ?_, ?_⟩
    · unfold body0_last.sl.H4_1
      rw [View.read_writes_full, hs, View.readAt_full, View.readAt_full]; rfl
    · unfold body0_last.sl.H5_1
      rw [View.read_writes_full, hs, View.readAt_full, View.readAt_full, View.readAt_full]; rfl
    · unfold body0_last.sl.H6_1
      rw [View.read_writes_full, hs, View.readAt_full]; rfl
end
end Cert.KernelIdeal.Hand
end
-- ==== Proof.Region0.lean ====
/-
  The first call over its grid of twelve points: the value of every block, the invariant over the scratch buffers
  between points, and the call as one segment of the program, entered from any contents of the arrays.
-/
module

public import proofs.«01_k».proof.Proof.Body0

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- Grid point `n`. -/
def pnt0 (n : ℕ) : Fin cfg0.N := ⟨n % 12, by show n % 12 < grid0.N; rw [N_0]; exact Nat.mod_lt _ (by decide)⟩

/-- The next point's rows, as staged at point `t`. -/
def nx0 (c : Dev nD) (t : Fin cfg0.N) : Vec F S384x32 .f32 := ((cfg0.win 0).blk t).view.read (Elt F) (V c main_v0)
/-- Point `t`'s own rows, as staged there. -/
def xs0 (c : Dev nD) (t : Fin cfg0.N) : Vec F S384x32 .f32 := ((cfg0.win 1).blk t).view.read (Elt F) (V c main_v0)
/-- The dictionary as staged. -/
def ds0 (c : Dev nD) (t : Fin cfg0.N) : Vec F S32x8192 .f32 := ((cfg0.win 2).blk t).view.read (Elt F) (V c main_arg1)
/-- The normalised dictionary. -/
def dn0 (c : Dev nD) : Vec F S32x8192 .f32 := k0_pay5 (ds0 V c (pnt0 0))
/-- Block `n` of the correlations: the first from the first point's own rows, every later one computed a point ahead. -/
def cr0 (c : Dev nD) : ℕ → Vec F S1x384x8192 .f32
  | 0 => k0_pay8 (xs0 V c (pnt0 0)) (dn0 V c)
  | n + 1 => k0_pay9 (dn0 V c) (nx0 V c (pnt0 n))
/-- The loss after point `n`. -/
def ls0 (c : Dev nD) : ℕ → Vec F S1x1 .f32
  | 0 => lB0 (dn0 V c) (cr0 V c 0) (xs0 V c (pnt0 0)) k0_pay6
  | n + 1 => lB0 (dn0 V c) (cr0 V c (n + 1)) (xs0 V c (pnt0 (n + 1))) (ls0 c n)
/-- The count after point `n`. -/
def ct0 (c : Dev nD) : ℕ → Vec F S1x1 .f32
  | 0 => cB0 (cr0 V c 0) k0_pay7
  | n + 1 => cB0 (cr0 V c (n + 1)) (ct0 c n)

/-- The two scratch buffers. -/
abbrev sc0 : Memref sig .tc .vmem S2x384x8192 .f32 := .whole cc0_scratch0
/-- The scratch that keeps the dictionary with unit columns. -/
abbrev sd0 : Memref sig .tc .vmem S32x8192 .f32 := .whole cc0_scratch1

/-- Before point `n`: the two scratch buffers at contents that, past the first point, hold block `n` in its half and the
    normalised dictionary; and every other scoped buffer. -/
def Φ0 (c : Dev nD) (n : ℕ) : sProp 𝕄 :=
  iprop((∃ (f7 : Bf (F := F) c sc0) (f8 : Bf (F := F) c sd0),
      ⌜n ≠ 0 → n < 12 → slotOf ((sc0).view.read (Elt F) f7) n = cr0 V c n ∧ (sd0).view.read (Elt F) f8 = dn0 V c⌝ ∗ pt c sc0 f7 ∗ pt c sd0 f8)
    ∗ Pipeline.scopedRestBut (Ix := Unit) (Name := ℕ) (U := UU) (Lvl := ℕ) (Val := Elt F) spec0 c [cc0_scratch0, cc0_scratch1])

/-- The proof data of the call, from the arrays at `V`. -/
def dat0 (c : Dev nD) : Dat τ (Elt F) Unit ℕ UU ℕ cfg0 c where
  A w := V c (Pipeline.arrRef spec0 w)
  after w t := match w with
    | ⟨0, _⟩ => nx0 V c t
    | ⟨1, _⟩ => xs0 V c t
    | ⟨2, _⟩ => ds0 V c t
    | ⟨3, _⟩ => qB0 (dn0 V c) (cr0 V c t.val) (xs0 V c t)
    | ⟨4, _⟩ => ls0 V c t.val
    | ⟨5, _⟩ => ct0 V c t.val
  Φ t := Φ0 V c t.val
  q w := Pipeline.shareOf spec0 w
  owed _ := 0

/-- A staging buffer owned at contents, as the whole buffer held at some contents that read as those. -/
theorem owns_pt0 (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The next block's rows, before point `t`. -/
theorem before0_0 (c : Dev nD) (t : Fin cfg0.N) (d) : (dat0 V c).before 0 t d = nx0 V c t := by
  rw [(dat0 V c).before_in_eq_fetched 0 rfl (fun _ => rfl) (fun _ _ _ => rfl) (fun _ => rfl)]; rfl
/-- The block's own rows, before point `t`. -/
theorem before0_1 (c : Dev nD) (t : Fin cfg0.N) (d) : (dat0 V c).before 1 t d = xs0 V c t := by
  rw [(dat0 V c).before_in_eq_fetched 1 rfl (fun _ => rfl) (fun _ _ _ => rfl) (fun _ => rfl)]; rfl
/-- The dictionary, before point `t`. -/
theorem before0_2 (c : Dev nD) (t : Fin cfg0.N) (d) : (dat0 V c).before 2 t d = ds0 V c t := by
  rw [(dat0 V c).before_in_eq_fetched 2 rfl (fun _ => rfl) (fun _ _ _ => rfl) (fun _ => rfl)]; rfl
/-- The running loss, before a point that is not the first, is as the point before left it. -/
theorem before0_4 (c : Dev nD) (t : Fin cfg0.N) (n : ℕ) (hn : t.val = n + 1) (d) : (dat0 V c).before 4 t d = ls0 V c n := by
  have hN : t.val < 12 := lt_of_lt_of_eq t.isLt N_0
  rw [(dat0 V c).before_out_kept 4 rfl t (by omega) (by
    rw [← Bool.not_eq_true, flush0_4]; show ¬ (t.val - 1) % 12 = 11; omega) (fun _ => rfl) (fun _ _ => rfl)]
  show ls0 V c (t.val - 1) = _
  rw [hn]; rfl
/-- So is the running count. -/
theorem before0_5 (c : Dev nD) (t : Fin cfg0.N) (n : ℕ) (hn : t.val = n + 1) (d) : (dat0 V c).before 5 t d = ct0 V c n := by
  have hN : t.val < 12 := lt_of_lt_of_eq t.isLt N_0
  rw [(dat0 V c).before_out_kept 5 rfl t (by omega) (by
    rw [← Bool.not_eq_true, flush0_5]; show ¬ (t.val - 1) % 12 = 11; omega) (fun _ => rfl) (fun _ _ => rfl)]
  show ct0 V c (t.val - 1) = _
  rw [hn]; rfl

/-- The dictionary is staged once, so every point sees the same. -/
theorem ds0_eq (c : Dev nD) (t : Fin cfg0.N) : ds0 V c t = ds0 V c (pnt0 0) := rfl

/-- A point's one coordinate is its number. -/
theorem coord0 : ∀ t : Fin grid0.N, (grid0.coords t 0).val = t.val := by decide +kernel
/-- The prologue's condition holds at point 0 alone. -/
theorem fst0_iff : ∀ t : Fin grid0.N, fst0 (grid0.coords t) = 1#1 ↔ t.val = 0 := by decide +kernel
/-- The next block's correlations are computed at every point but the last. -/
theorem cond0_iff : ∀ t : Fin grid0.N, k0_cond2 (grid0.coords t) = 1#1 ↔ t.val ≠ 11 := by decide +kernel
/-- A point is the point of its number. -/
theorem pnt0_val (t : Fin cfg0.N) : pnt0 t.val = t := by
  have hN : t.val < 12 := lt_of_lt_of_eq t.isLt N_0
  exact Fin.ext (Nat.mod_eq_of_lt hN)

set_option maxHeartbeats 1600000 in
set_option backward.isDefEq.respectTransparency.types false in
/-- The body at every point takes the invariant there to the invariant at the next. -/
theorem body_obligation0 (c : Dev nD) : BodyObligation (dat0 V c) (defs₀ (F := F)) Variants.none () Set.univ := fun t => by
  have hN : t.val < 12 := lt_of_lt_of_eq t.isLt N_0
  rw [bigSep_W0, bigSep_W0]
  rw [show (dat0 V c).Φ t.castSucc = Φ0 V c t.val from rfl, show (dat0 V c).Φ t.succ = Φ0 V c (t.val + 1) from rfl,
    show (dat0 V c).owesAt () t.succ = (dat0 V c).owesAt () t.castSucc from rfl]
  dsimp only
  have o0 := fun X => owns_pt0 (F := F) c (st0_0 t) (hstage0_0 ((cfg0.slots t 0).cast nbuf0_0)) X
  have o1 := fun X => owns_pt0 (F := F) c (st0_1 t) (hstage0_1 ((cfg0.slots t 1).cast nbuf0_1)) X
  have o2 := fun X => owns_pt0 (F := F) c (st0_2 t) (hstage0_2 ((cfg0.slots t 2).cast nbuf0_2)) X
  have o3 := fun X => owns_pt0 (F := F) c (st0_3 t) (hstage0_3 ((cfg0.slots t 3).cast nbuf0_3)) X
  have o4 := fun X => owns_pt0 (F := F) c (st0_4 t) (hstage0_4 ((cfg0.slots t 4).cast nbuf0_4)) X
  have o5 := fun X => owns_pt0 (F := F) c (st0_5 t) (hstage0_5 ((cfg0.slots t 5).cast nbuf0_5)) X
  iintro ⟨HΦ, Howes, ⟨%d0, H0⟩, ⟨%d1, H1⟩, ⟨%d2, H2⟩, ⟨%d3, H3⟩, ⟨%d4, H4⟩, ⟨%d5, H5⟩⟩
  rw [before0_0, before0_1, before0_2]
  unfold Φ0
  icases HΦ with ⟨⟨%f7, %f8, %hΦ, H7, H8⟩, Hrest⟩
  ihave H0 := (Entails.of_eq (o0 _)) $$ H0
  ihave H1 := (Entails.of_eq (o1 _)) $$ H1
  ihave H2 := (Entails.of_eq (o2 _)) $$ H2
  ihave H3 := (Entails.of_eq (o3 _)) $$ H3
  ihave H4 := (Entails.of_eq (o4 _)) $$ H4
  ihave H5 := (Entails.of_eq (o5 _)) $$ H5
  icases H0 with ⟨%f1, %e1, H0⟩
  icases H1 with ⟨%f2, %e2, H1⟩
  icases H2 with ⟨%f3, %e3, H2⟩
  icases H3 with ⟨%f4, %e4, H3⟩
  icases H4 with ⟨%f5, %e5, H4⟩
  icases H5 with ⟨%f6, %e6, H5⟩
  have hw1 : (st0_0 t).view.read (Elt F) f1 = nx0 V c t := e1
  have hw2 : (st0_1 t).view.read (Elt F) f2 = xs0 V c t := e2
  have hw3 : (st0_2 t).view.read (Elt F) f3 = ds0 V c t := e3
  have hco : (grid0.coords t 0).val = t.val := coord0 t
  have hpt : pnt0 t.val = t := pnt0_val t
  by_cases ht : t.val = 0
  · iapply (body0_first c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) sc0 (Memref.isWhole_whole _) sd0 (Memref.isWhole_whole _) f1 f2 f3 f4 f5 f6 f7 f8
      ((fst0_iff t).2 ht) ((cond0_iff t).2 (by omega)) (by rw [hco, ht]) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 %g7 %g8 ⟨%hg, H0, H1, H2, H3, H4, H5, H7, H8⟩
    obtain ⟨q4, q5, q6, q7, q8⟩ := hg
    rw [hw3, hw2, ds0_eq V c t] at q4 q5
    rw [hw3, hw2, ds0_eq V c t] at q6
    rw [hw3, hw1, ds0_eq V c t, hco] at q7
    rw [hw3, ds0_eq V c t] at q8
    have hpt0 : pnt0 0 = t := by rw [← hpt, ht]
    isplitl [H7 H8 Hrest]
    · isplitl [H7 H8]
      · iexists g7; iexists g8
        isplitr
        · ipureintro
          intro _ _
          refine ⟨q7.trans ?_, q8⟩
          show _ = cr0 V c (t.val + 1)
          show _ = k0_pay9 (dn0 V c) (nx0 V c (pnt0 t.val))
          rw [hpt]; rfl
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro
        refine q4.trans ?_
        show _ = qB0 (dn0 V c) (cr0 V c t.val) (xs0 V c t)
        rw [ht, ← hpt0]; rfl
      iexact H3
    isplitl [H4]
    · iapply (Entails.of_eq (o4 _).symm); iexists g5; isplitr
      · ipureintro
        refine q5.trans ?_
        show _ = ls0 V c t.val
        rw [ht, ← hpt0]; rfl
      iexact H4
    · iapply (Entails.of_eq (o5 _).symm); iexists g6; isplitr
      · ipureintro
        refine q6.trans ?_
        show _ = ct0 V c t.val
        rw [ht, ← hpt0]; rfl
      iexact H5
  obtain ⟨n, hn⟩ : ∃ n, t.val = n + 1 := ⟨t.val - 1, by omega⟩
  have hxs : xs0 V c t = xs0 V c (pnt0 (n + 1)) := by rw [← hn, hpt]
  obtain ⟨hs, hd⟩ := hΦ ht hN
  have hw5 : (st0_4 t).view.read (Elt F) f5 = ls0 V c n := e5.trans (before0_4 V c t n hn d4)
  have hw6 : (st0_5 t).view.read (Elt F) f6 = ct0 V c n := e6.trans (before0_5 V c t n hn d5)
  by_cases hl : t.val ≠ 11
  · iapply (body0_mid c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) sc0 (Memref.isWhole_whole _) sd0 (Memref.isWhole_whole _) f1 f2 f3 f4 f5 f6 f7 f8
      (fun h => ht ((fst0_iff t).1 h)) ((cond0_iff t).2 hl) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 %g7 ⟨%hg, H0, H1, H2, H3, H4, H5, H7, H8⟩
    obtain ⟨q4, q5, q6, q7⟩ := hg
    rw [hd, hco, hs, hw2] at q4
    rw [hd, hco, hs, hw2, hw5] at q5
    rw [hco, hs, hw6] at q6
    rw [hd, hw1, hco] at q7
    isplitl [H7 H8 Hrest]
    · isplitl [H7 H8]
      · iexists g7; iexists f8
        isplitr
        · ipureintro
          intro _ _
          refine ⟨q7.trans ?_, hd⟩
          show _ = k0_pay9 (dn0 V c) (nx0 V c (pnt0 t.val))
          rw [hpt]
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro; exact q4
      iexact H3
    isplitl [H4]
    · iapply (Entails.of_eq (o4 _).symm); iexists g5; isplitr
      · ipureintro
        refine q5.trans ?_
        show _ = ls0 V c t.val
        rw [hxs, hn]; rfl
      iexact H4
    · iapply (Entails.of_eq (o5 _).symm); iexists g6; isplitr
      · ipureintro
        refine q6.trans ?_
        show _ = ct0 V c t.val
        rw [hn]; rfl
      iexact H5
  · replace hl : t.val = 11 := not_not.1 hl
    iapply (body0_last c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) sc0 (Memref.isWhole_whole _) sd0 (Memref.isWhole_whole _) f1 f2 f3 f4 f5 f6 f7 f8
      (fun h => ht ((fst0_iff t).1 h)) (fun h => (cond0_iff t).1 h hl) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 ⟨%hg, H0, H1, H2, H3, H4, H5, H7, H8⟩
    obtain ⟨q4, q5, q6⟩ := hg
    rw [hd, hco, hs, hw2] at q4
    rw [hd, hco, hs, hw2, hw5] at q5
    rw [hco, hs, hw6] at q6
    isplitl [H7 H8 Hrest]
    · isplitl [H7 H8]
      · iexists f7; iexists f8
        isplitr
        · ipureintro
          intro _ h; omega
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro; exact q4
      iexact H3
    isplitl [H4]
    · iapply (Entails.of_eq (o4 _).symm); iexists g5; isplitr
      · ipureintro
        refine q5.trans ?_
        show _ = ls0 V c t.val
        rw [hxs, hn]; rfl
      iexact H4
    · iapply (Entails.of_eq (o5 _).symm); iexists g6; isplitr
      · ipureintro
        refine q6.trans ?_
        show _ = ct0 V c t.val
        rw [hn]; rfl
      iexact H5

/-- This call's data at its place, anything at the other's. -/
def pd0 : (p : Fin 2) → (c : Dev nD) → Dat τ (Elt F) Unit ℕ UU ℕ (Pipeline.pin (pcfgs (F := F)) adm p) c
  | ⟨0, _⟩ => fun c => dat0 V c
  | ⟨1, _⟩ => fun c => junkDat c

/-- The scratch buffers taken out of the scoped buffers that no window stages through. -/
theorem scratch0 (c : Dev nD) : (Pipeline.scopedRest (Ix := Unit) (Name := ℕ) (U := UU) (Lvl := ℕ) (Val := Elt F) spec0 c : sProp 𝕄)
    = iprop(((∃ f : Bf (F := F) c sc0, pt c sc0 f) ∗ (∃ f : Bf (F := F) c sd0, pt c sd0 f))
        ∗ Pipeline.scopedRestBut (Ix := Unit) (Name := ℕ) (U := UU) (Lvl := ℕ) (Val := Elt F) spec0 c [cc0_scratch0, cc0_scratch1]) :=
  Pipeline.scopedRest_split_of_list spec0 c [cc0_scratch0, cc0_scratch1] (by decide) (by decide)

/-- What the call leaves in the three results' arrays. -/
def out0 (c : Dev nD) (w : Fin 6) : Buf (Elt F) ((cfg0.win w).arr.view.loc (c : Thread nD τ)) := (dat0 V c).arrAt w cfg0.N

variable (Vp : (c : Dev nD) → (b : Ref sig .tc) → Buf (Elt F) ((c : Thread nD τ).loc b))

set_option backward.isDefEq.respectTransparency.types false in
/-- The call as a segment: entered with every unscoped buffer at `V`, left with the three results' arrays at what the
    pipeline wrote there and every other as it was. -/
def reg0 (h3 : ∀ c, Vp c main_v1_0 = out0 V c 3) (h4 : ∀ c, Vp c main_v1_1 = out0 V c 4) (h5 : ∀ c, Vp c main_v1_2 = out0 V c 5)
    (hne : ∀ c (b : Ref sig .tc), b ≠ main_v1_0 → b ≠ main_v1_1 → b ≠ main_v1_2 → Vp c b = V c b) :
    Pipeline.RegionSeg (pcfgs (F := F)) adm (pd0 V) () defs₀ Variants.none L lv 0 where
  win := (launch₀0).win
  block_pos := (launch₀0).block_pos
  stage_whole := (launch₀0).stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs_shared (p := 0) (pcfgs (F := F)) adm (pd0 V) (launch₀0).win sharedIn0 arr_whole0 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd0 V 0 c).Φ 0 = Φ0 V c 0 from rfl]
    iintro ⟨-, -, Hr⟩
    ihave H := (Entails.of_eq (scratch0 (F := F) c)) $$ Hr
    icases H with ⟨⟨⟨%f7, H7⟩, ⟨%f8, H8⟩⟩, Hrest⟩
    unfold Φ0
    isplitl [H7 H8]
    · iexists f7; iexists f8
      isplitr; · ipureintro; exact fun h => absurd rfl h
      isplitl [H7] <;> iassumption
    iexact Hrest
  hout c := by
    rw [Pipeline.ownSems0_none, show (pd0 V 0 c).Φ (Fin.last _) = Φ0 V c cfg0.N from rfl]
    unfold Φ0
    iintro ⟨⟨%f7, %f8, -, H7, H8⟩, Hrest⟩
    isplitr; · iempintro
    isplitr; · iempintro
    iapply (Entails.of_eq (scratch0 (F := F) c).symm)
    isplitl [H7 H8]
    · isplitl [H7]
      · iexists f7; iexact H7
      iexists f8; iexact H8
    iexact Hrest
  hexit c := by
    have hjoin := Pipeline.unscopedBufs_of_arrays_shared (p := 0) (pcfgs (F := F)) adm (Ix := Unit) (Name := ℕ) (U := UU) (Lvl := ℕ) (launch₀0).win sharedIn0 arr_whole0 c
      (pd0 V) (fun _ _ => rfl) (V c) (Vp c) ((pd0 V 0 c).arrAt · cfg0.N)
      (fun w => by
        fin_cases w
        · exact ((pd0 V 0 c).arrAt_in 0 rfl _).trans (hne c main_v0 (by decide) (by decide) (by decide)).symm
        · exact ((pd0 V 0 c).arrAt_in 1 rfl _).trans (hne c main_v0 (by decide) (by decide) (by decide)).symm
        · exact ((pd0 V 0 c).arrAt_in 2 rfl _).trans (hne c main_arg1 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO
end Cert.KernelIdeal.Hand
end
-- ==== Proof.Body1.lean ====
/-
  The body of the second call at one grid point, in its three cases: the first point (which normalises the
  dictionary and computes the first block of correlations itself), a middle point, and the last point (which computes
  no block ahead). Each is stated over the contents of the staging buffers and of the two scratch buffers.
-/
module

public import proofs.«01_k».proof.Proof.Base
public import proofs.«01_k».proof.Proof.Gen.KernelIdeal.Points

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The constant written over an entry already taken. -/
abbrev ov1 : F .f32 := Scalar.ofBits .f32 0xBF800000#32
/-- The magnitudes with four entries of each row taken. -/
def st1 (b : Vec F S1x384x8192 .f32) : FVec F S384x8192 .f32 := k1_pay11 (k1_pay8 (F := F)) (k1_pay9 b) (k1_pay10 b)
/-- The place of the fifth entry of each row. -/
def hit1 (b : Vec F S1x384x8192 .f32) : IVec S384x8192 1 := k1_pay12 (k1_pay8 (F := F)) (k1_pay9 b) (k1_pay10 b)
/-- The first result's block: the rows plus what reconstruction from the five entries taken differs by. -/
def qB1 (dn : Vec F S32x8192 .f32) (b : Vec F S1x384x8192 .f32) (x : Vec F S384x32 .f32) : Vec F S384x32 .f32 :=
  k1_pay17 dn (k1_pay7 b) (st1 b) (hit1 b) ov1 x
/-- The loss after a block, from the loss before it. -/
def lB1 (dn : Vec F S32x8192 .f32) (b : Vec F S1x384x8192 .f32) (x : Vec F S384x32 .f32) (l : Vec F S1x1 .f32) : Vec F S1x1 .f32 :=
  k1_pay1 (k1_pay18 l) (k1_pay19 dn (k1_pay7 b) (st1 b) (hit1 b) ov1 x)
/-- The count of marks beyond five a row after a block, from the count before it. -/
def cB1 (b : Vec F S1x384x8192 .f32) (n : Vec F S1x1 .f32) : Vec F S1x1 .f32 :=
  k1_pay14 (st1 b) (hit1 b) ov1 n

/-- The half written ahead at point `i`. -/
theorem k1_off1_eq : ∀ i : grid1.Coords, k1_off1 i = ![((i 0).val + 1) % 2, 0, 0] := by decide +kernel
/-- The half read at point `i`. -/
theorem k1_off2_eq : ∀ i : grid1.Coords, k1_off2 i = ![(i 0).val % 2, 0, 0] := by decide +kernel
/-- The offset of the half that is written, in closed form. -/
instance (i : grid1.Coords) : ClosedOff (k1_off1 i) := ⟨![((i 0).val + 1) % 2, 0, 0], k1_off1_eq i⟩
/-- The offset of the half that is read, in closed form. -/
instance (i : grid1.Coords) : ClosedOff (k1_off2 i) := ⟨![(i 0).val % 2, 0, 0], k1_off2_eq i⟩

/-- The word that asks whether point `i` is the first. -/
abbrev fst1 (i : grid1.Coords) : BitVec 1 :=
  Scalar.cmpi .ne (Scalar.extui (Scalar.cmpi .eq (BitVec.ofNat 32 (i 0).val) 0#32) : BitVec 32) 0#32

section
variable (c : Dev nD) (i : grid1.Coords)
  (arg1 : Memref sig .tc .vmem S384x32 .f32) (harg1 : arg1.IsWhole) (arg2 : Memref sig .tc .vmem S384x32 .f32) (harg2 : arg2.IsWhole)
  (arg3 : Memref sig .tc .vmem S32x8192 .f32) (harg3 : arg3.IsWhole) (arg4 : Memref sig .tc .vmem S384x32 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S2x384x8192 .f32) (harg7 : arg7.IsWhole) (arg8 : Memref sig .tc .vmem S32x8192 .f32) (harg8 : arg8.IsWhole)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)

/-- The first point: from any scratch contents. -/
theorem body1_first (h1 : fst1 i = 1#1) (h2 : k1_cond2 i = 1#1) (hi : (i 0).val = 0) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6 g7 g8, iprop(⌜arg4.view.read (Elt F) g4 = qB1 (k1_pay2 (arg3.view.read (Elt F) f3)) (k1_pay5 (arg2.view.read (Elt F) f2) (k1_pay2 (arg3.view.read (Elt F) f3))) (arg2.view.read (Elt F) f2)
          ∧ arg5.view.read (Elt F) g5 = lB1 (k1_pay2 (arg3.view.read (Elt F) f3)) (k1_pay5 (arg2.view.read (Elt F) f2) (k1_pay2 (arg3.view.read (Elt F) f3))) (arg2.view.read (Elt F) f2) k1_pay3
          ∧ arg6.view.read (Elt F) g6 = cB1 (k1_pay5 (arg2.view.read (Elt F) f2) (k1_pay2 (arg3.view.read (Elt F) f3))) k1_pay4
          ∧ slotOf (arg7.view.read (Elt F) g7) ((i 0).val + 1) = k1_pay6 (k1_pay2 (arg3.view.read (Elt F) f3)) (arg1.view.read (Elt F) f1)
          ∧ arg8.view.read (Elt F) g8 = k1_pay2 (arg3.view.read (Elt F) f3)⌝ ∗
          pt c arg1 f1 ∗ pt c arg2 f2 ∗ pt c arg3 f3 ∗ pt c arg4 g4 ∗ pt c arg5 g5 ∗ pt c arg6 g6 ∗ pt c arg7 g7 ∗ pt c arg8 g8) -∗ Q ⟨⟩))
     ⊢ wp frame (wpE (defs₀ (F := F)) Variants.none c none) E (cc1__body i arg1 harg1 arg2 harg2 arg3 harg3 arg4 harg4 arg5 harg5 arg6 harg6 arg7 harg7 arg8 harg8) Q := by
  rw [cc1__body_eq_skeleton]
  unfold cc1__body_skel
  rw [k1_part1_eq_skeleton, k1_part2_eq_skeleton, k1_part3_eq_skeleton]
  unfold k1_part1_skel k1_part2_skel k1_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hd : body1_first.sl.v140 c arg3 arg8 f3 = k1_pay2 (arg3.view.read (Elt F) f3) := by
      unfold body1_first.sl.v140 body1_first.sl.H8_1
      rw [View.readCov_full, View.readAt_full]
    have hl : body1_first.sl.v112 (F := F) arg5 = k1_pay3 := by
      unfold body1_first.sl.v112 body1_first.sl.H5_1
      rw [View.readCov_full]
    have hc : body1_first.sl.v97 (F := F) arg6 = k1_pay4 := by
      unfold body1_first.sl.v97 body1_first.sl.H6_1
      rw [View.readCov_full]
    have hs : View.readAt (Elt F) arg7.view (Rect.unit (s := S2x384x8192) (k1_off2 i) S1x384x8192.size (k1_off2_inb i)).toLoadRect
        (arg7.view.writes (Elt F) f7 (body1_first.sl.H7_2 c i arg1 arg2 arg3 arg8 f1 f2 f3 h2))
        = k1_pay5 (arg2.view.read (Elt F) f2) (k1_pay2 (arg3.view.read (Elt F) f3)) := by
      rw [readAt_slot arg7.view _ (k1_off2_eq i)]
      unfold body1_first.sl.H7_2
      rw [slotOf_other _ _ (k1_off1_eq i) _ _ _ (by omega), hi, slotOf_same _ _ (n := 0) rfl, hd, View.readAt_full]
    refine ⟨?_, ?_, ?_, ?_, ?_⟩
    · unfold body1_first.sl.H4_1
      rw [View.read_writes_full, hs, hd, View.readAt_full]; rfl
    · unfold body1_first.sl.H5_2
      rw [View.read_writes_full, hs, hd, hl, View.readAt_full]; rfl
    · unfold body1_first.sl.H6_2
      rw [View.read_writes_full, hs, hc]; rfl
    · unfold body1_first.sl.H7_2
      rw [slotOf_same _ _ (k1_off1_eq i), hd, View.readAt_full]
    · unfold body1_first.sl.H8_1
      rw [View.read_writes_full, View.readAt_full]

/-- A middle point: the half read holds the block computed at the point before. -/
theorem body1_mid (h1 : ¬ fst1 i = 1#1) (h2 : k1_cond2 i = 1#1) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6 g7, iprop(⌜arg4.view.read (Elt F) g4 = qB1 (arg8.view.read (Elt F) f8) (slotOf (arg7.view.read (Elt F) f7) (i 0).val) (arg2.view.read (Elt F) f2)
          ∧ arg5.view.read (Elt F) g5 = lB1 (arg8.view.read (Elt F) f8) (slotOf (arg7.view.read (Elt F) f7) (i 0).val) (arg2.view.read (Elt F) f2) (arg5.view.read (Elt F) f5)
          ∧ arg6.view.read (Elt F) g6 = cB1 (slotOf (arg7.view.read (Elt F) f7) (i 0).val) (arg6.view.read (Elt F) f6)
          ∧ slotOf (arg7.view.read (Elt F) g7) ((i 0).val + 1) = k1_pay6 (arg8.view.read (Elt F) f8) (arg1.view.read (Elt F) f1)⌝ ∗
          pt c arg1 f1 ∗ pt c arg2 f2 ∗ pt c arg3 f3 ∗ pt c arg4 g4 ∗ pt c arg5 g5 ∗ pt c arg6 g6 ∗ pt c arg7 g7 ∗ pt c arg8 f8) -∗ Q ⟨⟩))
     ⊢ wp frame (wpE (defs₀ (F := F)) Variants.none c none) E (cc1__body i arg1 harg1 arg2 harg2 arg3 harg3 arg4 harg4 arg5 harg5 arg6 harg6 arg7 harg7 arg8 harg8) Q := by
  rw [cc1__body_eq_skeleton]
  unfold cc1__body_skel
  rw [k1_part1_eq_skeleton, k1_part2_eq_skeleton, k1_part3_eq_skeleton]
  unfold k1_part1_skel k1_part2_skel k1_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hs : View.readAt (Elt F) arg7.view (Rect.unit (s := S2x384x8192) (k1_off2 i) S1x384x8192.size (k1_off2_inb i)).toLoadRect
        (arg7.view.writes (Elt F) f7 (body1_mid.sl.H7_1 c i arg1 arg8 f1 f8 h2)) = slotOf (arg7.view.read (Elt F) f7) (i 0).val := by
      rw [readAt_slot arg7.view _ (k1_off2_eq i)]
      unfold body1_mid.sl.H7_1
      rw [slotOf_other _ _ (k1_off1_eq i) _ _ _ (by omega), View.writes_nil]
    refine ⟨?_, ?_, ?_, ?_⟩
    · unfold body1_mid.sl.H4_1
      rw [View.read_writes_full, hs, View.readAt_full, View.readAt_full]; rfl
    · unfold body1_mid.sl.H5_1
      rw [View.read_writes_full, hs, View.readAt_full, View.readAt_full, View.readAt_full]; rfl
    · unfold body1_mid.sl.H6_1
      rw [View.read_writes_full, hs, View.readAt_full]; rfl
    · unfold body1_mid.sl.H7_1
      rw [slotOf_same _ _ (k1_off1_eq i), View.readAt_full, View.readAt_full]

/-- The last point: nothing is computed ahead. -/
theorem body1_last (h1 : ¬ fst1 i = 1#1) (h2 : ¬ k1_cond2 i = 1#1) (E : Set ℕ) (Q : PUnit → sProp 𝕄) :
   iprop(pt c arg1 f1 ∗ pt c arg2 f2 ∗ pt c arg3 f3 ∗ pt c arg4 f4 ∗ pt c arg5 f5 ∗ pt c arg6 f6 ∗ pt c arg7 f7 ∗ pt c arg8 f8 ∗
      (∀ g4 g5 g6, iprop(⌜arg4.view.read (Elt F) g4 = qB1 (arg8.view.read (Elt F) f8) (slotOf (arg7.view.read (Elt F) f7) (i 0).val) (arg2.view.read (Elt F) f2)
          ∧ arg5.view.read (Elt F) g5 = lB1 (arg8.view.read (Elt F) f8) (slotOf (arg7.view.read (Elt F) f7) (i 0).val) (arg2.view.read (Elt F) f2) (arg5.view.read (Elt F) f5)
          ∧ arg6.view.read (Elt F) g6 = cB1 (slotOf (arg7.view.read (Elt F) f7) (i 0).val) (arg6.view.read (Elt F) f6)⌝ ∗
          pt c arg1 f1 ∗ pt c arg2 f2 ∗ pt c arg3 f3 ∗ pt c arg4 g4 ∗ pt c arg5 g5 ∗ pt c arg6 g6 ∗ pt c arg7 f7 ∗ pt c arg8 f8) -∗ Q ⟨⟩))
     ⊢ wp frame (wpE (defs₀ (F := F)) Variants.none c none) E (cc1__body i arg1 harg1 arg2 harg2 arg3 harg3 arg4 harg4 arg5 harg5 arg6 harg6 arg7 harg7 arg8 harg8) Q := by
  rw [cc1__body_eq_skeleton]
  unfold cc1__body_skel
  rw [k1_part1_eq_skeleton, k1_part2_eq_skeleton, k1_part3_eq_skeleton]
  unfold k1_part1_skel k1_part2_skel k1_part3_skel
  iintro ⟨H1, H2, H3, H4, H5, H6, H7, H8, Hk⟩
  sl_exec!
  sl_step
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    have hs : View.readAt (Elt F) arg7.view (Rect.unit (s := S2x384x8192) (k1_off2 i) S1x384x8192.size (k1_off2_inb i)).toLoadRect f7
        = slotOf (arg7.view.read (Elt F) f7) (i 0).val := readAt_slot arg7.view _ (k1_off2_eq i) _
    refine ⟨?_, ?_, ?_⟩
    · unfold body1_last.sl.H4_1
      rw [View.read_writes_full, hs, View.readAt_full, View.readAt_full]; rfl
    · unfold body1_last.sl.H5_1
      rw [View.read_writes_full, hs, View.readAt_full, View.readAt_full, View.readAt_full]; rfl
    · unfold body1_last.sl.H6_1
      rw [View.read_writes_full, hs, View.readAt_full]; rfl
end
end Cert.KernelIdeal.Hand
end
-- ==== Proof.Region1.lean ====
/-
  The second call over its grid of twelve points: the value of every block, the invariant over the scratch buffers
  between points, and the call as one segment of the program, entered from any contents of the arrays.
-/
module

public import proofs.«01_k».proof.Proof.Body1

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- Grid point `n`. -/
def pnt1 (n : ℕ) : Fin cfg1.N := ⟨n % 12, by show n % 12 < grid1.N; rw [N_1]; exact Nat.mod_lt _ (by decide)⟩

/-- The next point's rows, as staged at point `t`. -/
def nx1 (c : Dev nD) (t : Fin cfg1.N) : Vec F S384x32 .f32 := ((cfg1.win 0).blk t).view.read (Elt F) (V c main_v0)
/-- Point `t`'s own rows, as staged there. -/
def xs1 (c : Dev nD) (t : Fin cfg1.N) : Vec F S384x32 .f32 := ((cfg1.win 1).blk t).view.read (Elt F) (V c main_v0)
/-- The dictionary as staged. -/
def ds1 (c : Dev nD) (t : Fin cfg1.N) : Vec F S32x8192 .f32 := ((cfg1.win 2).blk t).view.read (Elt F) (V c main_arg1)
/-- The normalised dictionary. -/
def dn1 (c : Dev nD) : Vec F S32x8192 .f32 := k1_pay2 (ds1 V c (pnt1 0))
/-- Block `n` of the correlations: the first from the first point's own rows, every later one computed a point ahead. -/
def cr1 (c : Dev nD) : ℕ → Vec F S1x384x8192 .f32
  | 0 => k1_pay5 (xs1 V c (pnt1 0)) (dn1 V c)
  | n + 1 => k1_pay6 (dn1 V c) (nx1 V c (pnt1 n))
/-- The loss after point `n`. -/
def ls1 (c : Dev nD) : ℕ → Vec F S1x1 .f32
  | 0 => lB1 (dn1 V c) (cr1 V c 0) (xs1 V c (pnt1 0)) k1_pay3
  | n + 1 => lB1 (dn1 V c) (cr1 V c (n + 1)) (xs1 V c (pnt1 (n + 1))) (ls1 c n)
/-- The count after point `n`. -/
def ct1 (c : Dev nD) : ℕ → Vec F S1x1 .f32
  | 0 => cB1 (cr1 V c 0) k1_pay4
  | n + 1 => cB1 (cr1 V c (n + 1)) (ct1 c n)

/-- The two scratch buffers. -/
abbrev sc1 : Memref sig .tc .vmem S2x384x8192 .f32 := .whole cc1_scratch0
/-- The scratch that keeps the dictionary with unit columns. -/
abbrev sd1 : Memref sig .tc .vmem S32x8192 .f32 := .whole cc1_scratch1

/-- Before point `n`: the two scratch buffers at contents that, past the first point, hold block `n` in its half and the
    normalised dictionary; and every other scoped buffer. -/
def Φ1 (c : Dev nD) (n : ℕ) : sProp 𝕄 :=
  iprop((∃ (f7 : Bf (F := F) c sc1) (f8 : Bf (F := F) c sd1),
      ⌜n ≠ 0 → n < 12 → slotOf ((sc1).view.read (Elt F) f7) n = cr1 V c n ∧ (sd1).view.read (Elt F) f8 = dn1 V c⌝ ∗ pt c sc1 f7 ∗ pt c sd1 f8)
    ∗ Pipeline.scopedRestBut (Ix := Unit) (Name := ℕ) (U := UU) (Lvl := ℕ) (Val := Elt F) spec1 c [cc1_scratch0, cc1_scratch1])

/-- The proof data of the call, from the arrays at `V`. -/
def dat1 (c : Dev nD) : Dat τ (Elt F) Unit ℕ UU ℕ cfg1 c where
  A w := V c (Pipeline.arrRef spec1 w)
  after w t := match w with
    | ⟨0, _⟩ => nx1 V c t
    | ⟨1, _⟩ => xs1 V c t
    | ⟨2, _⟩ => ds1 V c t
    | ⟨3, _⟩ => qB1 (dn1 V c) (cr1 V c t.val) (xs1 V c t)
    | ⟨4, _⟩ => ls1 V c t.val
    | ⟨5, _⟩ => ct1 V c t.val
  Φ t := Φ1 V c t.val
  q w := Pipeline.shareOf spec1 w
  owed _ := 0

/-- A staging buffer owned at contents, as the whole buffer held at some contents that read as those. -/
theorem owns_pt1 (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The next block's rows, before point `t`. -/
theorem before1_0 (c : Dev nD) (t : Fin cfg1.N) (d) : (dat1 V c).before 0 t d = nx1 V c t := by
  rw [(dat1 V c).before_in_eq_fetched 0 rfl (fun _ => rfl) (fun _ _ _ => rfl) (fun _ => rfl)]; rfl
/-- The block's own rows, before point `t`. -/
theorem before1_1 (c : Dev nD) (t : Fin cfg1.N) (d) : (dat1 V c).before 1 t d = xs1 V c t := by
  rw [(dat1 V c).before_in_eq_fetched 1 rfl (fun _ => rfl) (fun _ _ _ => rfl) (fun _ => rfl)]; rfl
/-- The dictionary, before point `t`. -/
theorem before1_2 (c : Dev nD) (t : Fin cfg1.N) (d) : (dat1 V c).before 2 t d = ds1 V c t := by
  rw [(dat1 V c).before_in_eq_fetched 2 rfl (fun _ => rfl) (fun _ _ _ => rfl) (fun _ => rfl)]; rfl
/-- The running loss, before a point that is not the first, is as the point before left it. -/
theorem before1_4 (c : Dev nD) (t : Fin cfg1.N) (n : ℕ) (hn : t.val = n + 1) (d) : (dat1 V c).before 4 t d = ls1 V c n := by
  have hN : t.val < 12 := lt_of_lt_of_eq t.isLt N_1
  rw [(dat1 V c).before_out_kept 4 rfl t (by omega) (by
    rw [← Bool.not_eq_true, flush1_4]; show ¬ (t.val - 1) % 12 = 11; omega) (fun _ => rfl) (fun _ _ => rfl)]
  show ls1 V c (t.val - 1) = _
  rw [hn]; rfl
/-- So is the running count. -/
theorem before1_5 (c : Dev nD) (t : Fin cfg1.N) (n : ℕ) (hn : t.val = n + 1) (d) : (dat1 V c).before 5 t d = ct1 V c n := by
  have hN : t.val < 12 := lt_of_lt_of_eq t.isLt N_1
  rw [(dat1 V c).before_out_kept 5 rfl t (by omega) (by
    rw [← Bool.not_eq_true, flush1_5]; show ¬ (t.val - 1) % 12 = 11; omega) (fun _ => rfl) (fun _ _ => rfl)]
  show ct1 V c (t.val - 1) = _
  rw [hn]; rfl

/-- The dictionary is staged once, so every point sees the same. -/
theorem ds1_eq (c : Dev nD) (t : Fin cfg1.N) : ds1 V c t = ds1 V c (pnt1 0) := rfl

/-- A point's one coordinate is its number. -/
theorem coord1 : ∀ t : Fin grid1.N, (grid1.coords t 0).val = t.val := by decide +kernel
/-- The prologue's condition holds at point 0 alone. -/
theorem fst1_iff : ∀ t : Fin grid1.N, fst1 (grid1.coords t) = 1#1 ↔ t.val = 0 := by decide +kernel
/-- The next block's correlations are computed at every point but the last. -/
theorem cond1_iff : ∀ t : Fin grid1.N, k1_cond2 (grid1.coords t) = 1#1 ↔ t.val ≠ 11 := by decide +kernel
/-- A point is the point of its number. -/
theorem pnt1_val (t : Fin cfg1.N) : pnt1 t.val = t := by
  have hN : t.val < 12 := lt_of_lt_of_eq t.isLt N_1
  exact Fin.ext (Nat.mod_eq_of_lt hN)

set_option maxHeartbeats 1600000 in
set_option backward.isDefEq.respectTransparency.types false in
/-- The body at every point takes the invariant there to the invariant at the next. -/
theorem body_obligation1 (c : Dev nD) : BodyObligation (dat1 V c) (defs₀ (F := F)) Variants.none () Set.univ := fun t => by
  have hN : t.val < 12 := lt_of_lt_of_eq t.isLt N_1
  rw [bigSep_W1, bigSep_W1]
  rw [show (dat1 V c).Φ t.castSucc = Φ1 V c t.val from rfl, show (dat1 V c).Φ t.succ = Φ1 V c (t.val + 1) from rfl,
    show (dat1 V c).owesAt () t.succ = (dat1 V c).owesAt () t.castSucc from rfl]
  dsimp only
  have o0 := fun X => owns_pt1 (F := F) c (st1_0 t) (hstage1_0 ((cfg1.slots t 0).cast nbuf1_0)) X
  have o1 := fun X => owns_pt1 (F := F) c (st1_1 t) (hstage1_1 ((cfg1.slots t 1).cast nbuf1_1)) X
  have o2 := fun X => owns_pt1 (F := F) c (st1_2 t) (hstage1_2 ((cfg1.slots t 2).cast nbuf1_2)) X
  have o3 := fun X => owns_pt1 (F := F) c (st1_3 t) (hstage1_3 ((cfg1.slots t 3).cast nbuf1_3)) X
  have o4 := fun X => owns_pt1 (F := F) c (st1_4 t) (hstage1_4 ((cfg1.slots t 4).cast nbuf1_4)) X
  have o5 := fun X => owns_pt1 (F := F) c (st1_5 t) (hstage1_5 ((cfg1.slots t 5).cast nbuf1_5)) X
  iintro ⟨HΦ, Howes, ⟨%d0, H0⟩, ⟨%d1, H1⟩, ⟨%d2, H2⟩, ⟨%d3, H3⟩, ⟨%d4, H4⟩, ⟨%d5, H5⟩⟩
  rw [before1_0, before1_1, before1_2]
  unfold Φ1
  icases HΦ with ⟨⟨%f7, %f8, %hΦ, H7, H8⟩, Hrest⟩
  ihave H0 := (Entails.of_eq (o0 _)) $$ H0
  ihave H1 := (Entails.of_eq (o1 _)) $$ H1
  ihave H2 := (Entails.of_eq (o2 _)) $$ H2
  ihave H3 := (Entails.of_eq (o3 _)) $$ H3
  ihave H4 := (Entails.of_eq (o4 _)) $$ H4
  ihave H5 := (Entails.of_eq (o5 _)) $$ H5
  icases H0 with ⟨%f1, %e1, H0⟩
  icases H1 with ⟨%f2, %e2, H1⟩
  icases H2 with ⟨%f3, %e3, H2⟩
  icases H3 with ⟨%f4, %e4, H3⟩
  icases H4 with ⟨%f5, %e5, H4⟩
  icases H5 with ⟨%f6, %e6, H5⟩
  have hw1 : (st1_0 t).view.read (Elt F) f1 = nx1 V c t := e1
  have hw2 : (st1_1 t).view.read (Elt F) f2 = xs1 V c t := e2
  have hw3 : (st1_2 t).view.read (Elt F) f3 = ds1 V c t := e3
  have hco : (grid1.coords t 0).val = t.val := coord1 t
  have hpt : pnt1 t.val = t := pnt1_val t
  by_cases ht : t.val = 0
  · iapply (body1_first c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      (st1_5 t) (hstage1_5 ((cfg1.slots t 5).cast nbuf1_5)) sc1 (Memref.isWhole_whole _) sd1 (Memref.isWhole_whole _) f1 f2 f3 f4 f5 f6 f7 f8
      ((fst1_iff t).2 ht) ((cond1_iff t).2 (by omega)) (by rw [hco, ht]) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 %g7 %g8 ⟨%hg, H0, H1, H2, H3, H4, H5, H7, H8⟩
    obtain ⟨q4, q5, q6, q7, q8⟩ := hg
    rw [hw3, hw2, ds1_eq V c t] at q4 q5
    rw [hw3, hw2, ds1_eq V c t] at q6
    rw [hw3, hw1, ds1_eq V c t, hco] at q7
    rw [hw3, ds1_eq V c t] at q8
    have hpt0 : pnt1 0 = t := by rw [← hpt, ht]
    isplitl [H7 H8 Hrest]
    · isplitl [H7 H8]
      · iexists g7; iexists g8
        isplitr
        · ipureintro
          intro _ _
          refine ⟨q7.trans ?_, q8⟩
          show _ = cr1 V c (t.val + 1)
          show _ = k1_pay6 (dn1 V c) (nx1 V c (pnt1 t.val))
          rw [hpt]; rfl
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro
        refine q4.trans ?_
        show _ = qB1 (dn1 V c) (cr1 V c t.val) (xs1 V c t)
        rw [ht, ← hpt0]; rfl
      iexact H3
    isplitl [H4]
    · iapply (Entails.of_eq (o4 _).symm); iexists g5; isplitr
      · ipureintro
        refine q5.trans ?_
        show _ = ls1 V c t.val
        rw [ht, ← hpt0]; rfl
      iexact H4
    · iapply (Entails.of_eq (o5 _).symm); iexists g6; isplitr
      · ipureintro
        refine q6.trans ?_
        show _ = ct1 V c t.val
        rw [ht, ← hpt0]; rfl
      iexact H5
  obtain ⟨n, hn⟩ : ∃ n, t.val = n + 1 := ⟨t.val - 1, by omega⟩
  have hxs : xs1 V c t = xs1 V c (pnt1 (n + 1)) := by rw [← hn, hpt]
  obtain ⟨hs, hd⟩ := hΦ ht hN
  have hw5 : (st1_4 t).view.read (Elt F) f5 = ls1 V c n := e5.trans (before1_4 V c t n hn d4)
  have hw6 : (st1_5 t).view.read (Elt F) f6 = ct1 V c n := e6.trans (before1_5 V c t n hn d5)
  by_cases hl : t.val ≠ 11
  · iapply (body1_mid c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      (st1_5 t) (hstage1_5 ((cfg1.slots t 5).cast nbuf1_5)) sc1 (Memref.isWhole_whole _) sd1 (Memref.isWhole_whole _) f1 f2 f3 f4 f5 f6 f7 f8
      (fun h => ht ((fst1_iff t).1 h)) ((cond1_iff t).2 hl) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 %g7 ⟨%hg, H0, H1, H2, H3, H4, H5, H7, H8⟩
    obtain ⟨q4, q5, q6, q7⟩ := hg
    rw [hd, hco, hs, hw2] at q4
    rw [hd, hco, hs, hw2, hw5] at q5
    rw [hco, hs, hw6] at q6
    rw [hd, hw1, hco] at q7
    isplitl [H7 H8 Hrest]
    · isplitl [H7 H8]
      · iexists g7; iexists f8
        isplitr
        · ipureintro
          intro _ _
          refine ⟨q7.trans ?_, hd⟩
          show _ = k1_pay6 (dn1 V c) (nx1 V c (pnt1 t.val))
          rw [hpt]
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro; exact q4
      iexact H3
    isplitl [H4]
    · iapply (Entails.of_eq (o4 _).symm); iexists g5; isplitr
      · ipureintro
        refine q5.trans ?_
        show _ = ls1 V c t.val
        rw [hxs, hn]; rfl
      iexact H4
    · iapply (Entails.of_eq (o5 _).symm); iexists g6; isplitr
      · ipureintro
        refine q6.trans ?_
        show _ = ct1 V c t.val
        rw [hn]; rfl
      iexact H5
  · replace hl : t.val = 11 := not_not.1 hl
    iapply (body1_last c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      (st1_5 t) (hstage1_5 ((cfg1.slots t 5).cast nbuf1_5)) sc1 (Memref.isWhole_whole _) sd1 (Memref.isWhole_whole _) f1 f2 f3 f4 f5 f6 f7 f8
      (fun h => ht ((fst1_iff t).1 h)) (fun h => (cond1_iff t).1 h hl) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro %g4 %g5 %g6 ⟨%hg, H0, H1, H2, H3, H4, H5, H7, H8⟩
    obtain ⟨q4, q5, q6⟩ := hg
    rw [hd, hco, hs, hw2] at q4
    rw [hd, hco, hs, hw2, hw5] at q5
    rw [hco, hs, hw6] at q6
    isplitl [H7 H8 Hrest]
    · isplitl [H7 H8]
      · iexists f7; iexists f8
        isplitr
        · ipureintro
          intro _ h; omega
        isplitl [H7]; · iexact H7
        iexact H8
      iexact Hrest
    isplitl [Howes]; · iexact Howes
    isplitl [H0]
    · iapply (Entails.of_eq (o0 _).symm); iexists f1; isplitr; · ipureintro; exact hw1
      iexact H0
    isplitl [H1]
    · iapply (Entails.of_eq (o1 _).symm); iexists f2; isplitr; · ipureintro; exact hw2
      iexact H1
    isplitl [H2]
    · iapply (Entails.of_eq (o2 _).symm); iexists f3; isplitr; · ipureintro; exact hw3
      iexact H2
    isplitl [H3]
    · iapply (Entails.of_eq (o3 _).symm); iexists g4; isplitr
      · ipureintro; exact q4
      iexact H3
    isplitl [H4]
    · iapply (Entails.of_eq (o4 _).symm); iexists g5; isplitr
      · ipureintro
        refine q5.trans ?_
        show _ = ls1 V c t.val
        rw [hxs, hn]; rfl
      iexact H4
    · iapply (Entails.of_eq (o5 _).symm); iexists g6; isplitr
      · ipureintro
        refine q6.trans ?_
        show _ = ct1 V c t.val
        rw [hn]; rfl
      iexact H5

/-- This call's data at its place, anything at the other's. -/
def pd1 : (p : Fin 2) → (c : Dev nD) → Dat τ (Elt F) Unit ℕ UU ℕ (Pipeline.pin (pcfgs (F := F)) adm p) c
  | ⟨0, _⟩ => fun c => junkDat c
  | ⟨1, _⟩ => fun c => dat1 V c

/-- The scratch buffers taken out of the scoped buffers that no window stages through. -/
theorem scratch1 (c : Dev nD) : (Pipeline.scopedRest (Ix := Unit) (Name := ℕ) (U := UU) (Lvl := ℕ) (Val := Elt F) spec1 c : sProp 𝕄)
    = iprop(((∃ f : Bf (F := F) c sc1, pt c sc1 f) ∗ (∃ f : Bf (F := F) c sd1, pt c sd1 f))
        ∗ Pipeline.scopedRestBut (Ix := Unit) (Name := ℕ) (U := UU) (Lvl := ℕ) (Val := Elt F) spec1 c [cc1_scratch0, cc1_scratch1]) :=
  Pipeline.scopedRest_split_of_list spec1 c [cc1_scratch0, cc1_scratch1] (by decide) (by decide)

/-- What the call leaves in the three results' arrays. -/
def out1 (c : Dev nD) (w : Fin 6) : Buf (Elt F) ((cfg1.win w).arr.view.loc (c : Thread nD τ)) := (dat1 V c).arrAt w cfg1.N

variable (Vp : (c : Dev nD) → (b : Ref sig .tc) → Buf (Elt F) ((c : Thread nD τ).loc b))

set_option backward.isDefEq.respectTransparency.types false in
/-- The call as a segment: entered with every unscoped buffer at `V`, left with the three results' arrays at what the
    pipeline wrote there and every other as it was. -/
def reg1 (h3 : ∀ c, Vp c main_case0b1_v10_0 = out1 V c 3) (h4 : ∀ c, Vp c main_case0b1_v10_1 = out1 V c 4) (h5 : ∀ c, Vp c main_case0b1_v10_2 = out1 V c 5)
    (hne : ∀ c (b : Ref sig .tc), b ≠ main_case0b1_v10_0 → b ≠ main_case0b1_v10_1 → b ≠ main_case0b1_v10_2 → Vp c b = V c b) :
    Pipeline.RegionSeg (pcfgs (F := F)) adm (pd1 V) () defs₀ Variants.none L lv 1 where
  win := (launch₀1).win
  block_pos := (launch₀1).block_pos
  stage_whole := (launch₀1).stage_whole
  K := PEmpty
  osem k := k.elim
  ho := Pipeline.OwnSemFacts.none _
  hbody c := (body_obligation1 V c).loose
  hwaits := Pipeline.hwaits_of_owed_zero _ _ _ _ L lv 1 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs_shared (p := 1) (pcfgs (F := F)) adm (pd1 V) (launch₀1).win sharedIn1 arr_whole1 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd1 V 1 c).Φ 0 = Φ1 V c 0 from rfl]
    iintro ⟨-, -, Hr⟩
    ihave H := (Entails.of_eq (scratch1 (F := F) c)) $$ Hr
    icases H with ⟨⟨⟨%f7, H7⟩, ⟨%f8, H8⟩⟩, Hrest⟩
    unfold Φ1
    isplitl [H7 H8]
    · iexists f7; iexists f8
      isplitr; · ipureintro; exact fun h => absurd rfl h
      isplitl [H7] <;> iassumption
    iexact Hrest
  hout c := by
    rw [Pipeline.ownSems0_none, show (pd1 V 1 c).Φ (Fin.last _) = Φ1 V c cfg1.N from rfl]
    unfold Φ1
    iintro ⟨⟨%f7, %f8, -, H7, H8⟩, Hrest⟩
    isplitr; · iempintro
    isplitr; · iempintro
    iapply (Entails.of_eq (scratch1 (F := F) c).symm)
    isplitl [H7 H8]
    · isplitl [H7]
      · iexists f7; iexact H7
      iexists f8; iexact H8
    iexact Hrest
  hexit c := by
    have hjoin := Pipeline.unscopedBufs_of_arrays_shared (p := 1) (pcfgs (F := F)) adm (Ix := Unit) (Name := ℕ) (U := UU) (Lvl := ℕ) (launch₀1).win sharedIn1 arr_whole1 c
      (pd1 V) (fun _ _ => rfl) (V c) (Vp c) ((pd1 V 1 c).arrAt · cfg1.N)
      (fun w => by
        fin_cases w
        · exact ((pd1 V 1 c).arrAt_in 0 rfl _).trans (hne c main_v0 (by decide) (by decide) (by decide)).symm
        · exact ((pd1 V 1 c).arrAt_in 1 rfl _).trans (hne c main_v0 (by decide) (by decide) (by decide)).symm
        · exact ((pd1 V 1 c).arrAt_in 2 rfl _).trans (hne c main_arg1 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO
end Cert.KernelIdeal.Hand
end
-- ==== Proof.Run.lean ====
/-
  The whole program: the first call, the test of its count, the second call where the count says so, and the
  operations round them, run from any memory to named contents of every array.
-/
module

public import proofs.«01_k».proof.Proof.Region0
public import proofs.«01_k».proof.Proof.Region1
public import Idealize.ShloMosaic.Lib.HostLoop
public import Idealize.ShloMosaic.Lib.HostLoop.Lifted
public import Idealize.ShloMosaic.Lib.HostLoop.Plain

@[expose] public section
noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (CSeg CaseSeg Ticket)

variable {F : FTy → Type} [FloatOps F]

local notation "𝕄" => MT nD τ sig Unit (Elt F) ℕ UU ℕ

variable (m : (ℓ : Loc nD τ sig) → Buf (Elt F) ℓ)

/-! ## The arrays' contents between the program's items -/

/-- A valuation with three arrays replaced. -/
def put3 (W : Valuation τ sig (Elt F)) (a b c : Ref sig .tc) (x : a.ty.Contents (Elt F)) (y : b.ty.Contents (Elt F)) (z : c.ty.Contents (Elt F)) :
    Valuation τ sig (Elt F) :=
  Function.update (Function.update (Function.update W (Proc.devRef .tc a) x) (Proc.devRef .tc b) y) (Proc.devRef .tc c) z

section
variable (W : Valuation τ sig (Elt F)) {a b c : Ref sig .tc} (x : a.ty.Contents (Elt F)) (y : b.ty.Contents (Elt F)) (z : c.ty.Contents (Elt F))
/-- What is put at the first place is read there, -/
theorem put3_fst (h : a ≠ b) (h' : a ≠ c) : put3 W a b c x y z (Proc.devRef .tc a) = x :=
  (Function.update_of_ne (StableHlo.devRef_ne_of_ne h') ..).trans ((Function.update_of_ne (StableHlo.devRef_ne_of_ne h) ..).trans (Function.update_self ..))
/-- and at the second, -/
theorem put3_snd (h : b ≠ c) : put3 W a b c x y z (Proc.devRef .tc b) = y :=
  (Function.update_of_ne (StableHlo.devRef_ne_of_ne h) ..).trans (Function.update_self ..)
/-- and at the third. -/
theorem put3_trd : put3 W a b c x y z (Proc.devRef .tc c) = z := Function.update_self ..
/-- At other places nothing changes. -/
theorem put3_ne (r : Ref sig .tc) (h : r ≠ a) (h' : r ≠ b) (h'' : r ≠ c) : put3 W a b c x y z (Proc.devRef .tc r) = W (Proc.devRef .tc r) :=
  (Function.update_of_ne (StableHlo.devRef_ne_of_ne h'') ..).trans ((Function.update_of_ne (StableHlo.devRef_ne_of_ne h') ..).trans
    (Function.update_of_ne (StableHlo.devRef_ne_of_ne h) ..))
end

/-- A valuation read at the references. -/
abbrev at' (W : Dev nD → Valuation τ sig (Elt F)) : (c : Dev nD) → (b : Ref sig .tc) → Buf (Elt F) ((c : Thread nD τ).loc b) := fun c b => W c b

/-- The widening of the test's bit to the word that the branch takes. -/
abbrev rdOp : HloOp τ sig (Elt F) :=
  StableHlo.unary main_v3 main_v4 ((extui 32 · natLt_1_32) : (⟨S_, .i1⟩ : BufTy).Contents (Elt F) → (⟨S_, .i32⟩ : BufTy).Contents (Elt F))
/-- The copies of the first call's results, and of the second's, to the branch's results. -/
abbrev cp0 : List (HloOp τ sig (Elt F)) := [StableHlo.unary main_v1_0 main_v5_0 id, StableHlo.unary main_v1_1 main_v5_1 id]
/-- The copies of the second arm's results. -/
abbrev cp1 : List (HloOp τ sig (Elt F)) := [StableHlo.unary main_case0b1_v10_0 main_v5_0 id, StableHlo.unary main_case0b1_v10_1 main_v5_1 id]

/-- At launch; -/
abbrev W0 (c : Dev nD) : Valuation τ sig (Elt F) := fun b => m (c, b)
/-- before the first call; -/
abbrev W1 (c : Dev nD) : Valuation τ sig (Elt F) := after hostOps0 (W0 m c)
/-- after it; -/
def W2 (c : Dev nD) : Valuation τ sig (Elt F) :=
  put3 (W1 m c) main_v1_0 main_v1_1 main_v1_2 (out0 (at' (W1 m)) c 3) (out0 (at' (W1 m)) c 4) (out0 (at' (W1 m)) c 5)
/-- after the test; -/
abbrev W3 (c : Dev nD) : Valuation τ sig (Elt F) := after hostOps1 (W2 m c)
/-- after the word is made; -/
abbrev W4 (c : Dev nD) : Valuation τ sig (Elt F) := after [rdOp] (W3 m c)
/-- the word; -/
def word (c : Dev nD) : BitVec 32 := W4 m c main_v4 HostLoop.idx0
/-- after the second call, where it runs; -/
def W4r (c : Dev nD) : Valuation τ sig (Elt F) :=
  put3 (W4 m c) main_case0b1_v10_0 main_case0b1_v10_1 main_case0b1_v10_2 (out1 (at' (W4 m)) c 3) (out1 (at' (W4 m)) c 4) (out1 (at' (W4 m)) c 5)
/-- after the branch, by the arm taken; -/
def W5 (b : Fin 2) (c : Dev nD) : Valuation τ sig (Elt F) :=
  match b with
  | 0 => after cp0 (W4 m c)
  | 1 => after cp1 (W4r m c)
/-- at the end. -/
def W6 (c : Dev nD) : Valuation τ sig (Elt F) := after hostOps1_1 (W5 m (HostLoop.branch (word m c) 1) c)

/-! ## The items as segments -/

/-- A core owes nothing. -/
abbrev Rw (c : Dev nD) : sProp 𝕄 := iprop(∃ W, owes (c : Thread nD τ) (0 : CellTallies nD τ sig Unit) W)

/-- The program has no host loop. -/
abbrev loops : Fin 0 → Prog (TpuEff nD τ sig (Elt F) (HostLoop.Sig (Pipeline.Sig Λ₀ (Fin 2) fun p => (pcfgs (F := F) p).Adm) 0) .tc) PUnit := fun l => l.elim0

/-- Each call is entered at most once: one ticket for each. -/
def tk : Fin 2 → Ticket (Ix := Unit) (Name := ℕ) (U := UU) (Lvl := ℕ) (nD := nD) (τ := τ) (pcfgs (F := F)) adm
  | 0 => { p := 0, pdats := pd0 (at' (W1 m)), EP := embAt (0 : Fin 2) }
  | 1 => { p := 1, pdats := pd1 (at' (W4 m)), EP := embAt (1 : Fin 2) }

/-- Operations that each use the program's arrays alone do so together. -/
theorem sub_of_forall {ops : List (HloOp τ sig (Elt F))} (h : ops.Forall fun op => op.bufs ⊆ StableHlo.tcRefs τ sig) :
    ∀ op ∈ ops, op.bufs ⊆ Pipeline.ucRefs τ sig := fun op hop => Pipeline.sub_ucRefs op ((List.forall_iff_forall_mem.mp h) op hop)
/-- The first arm's copies use the program's arrays alone, -/
theorem cp0_sub : (cp0 : List (HloOp τ sig (Elt F))).Forall fun op => op.bufs ⊆ StableHlo.tcRefs τ sig :=
  ⟨StableHlo.unary_bufs_sub .., StableHlo.unary_bufs_sub ..⟩
/-- and the second arm's. -/
theorem cp1_sub : (cp1 : List (HloOp τ sig (Elt F))).Forall fun op => op.bufs ⊆ StableHlo.tcRefs τ sig :=
  ⟨StableHlo.unary_bufs_sub .., StableHlo.unary_bufs_sub ..⟩

/-- The two spellings of every unscoped array held at a valuation. -/
theorem thread_eq (W : Valuation τ sig (Elt F)) (c : Dev nD) :
    (iprop(held (c : Thread nD τ) (Pipeline.ucRefs τ sig) W ∗ Rw c) : sProp 𝕄)
      = iprop(unscopedBufs c (fun b => W b) ∗ ∃ W', owes (c : Thread nD τ) (0 : CellTallies nD τ sig Unit) W') := by
  rw [← Pipeline.unscopedBufs_held]

/-- The arms as printed. -/
abbrev armProg : Fin 2 → Prog (TpuEff nD τ sig (Elt F) (Pipeline.Sig Λ₀ (Fin 2) fun p => (pcfgs (F := F) p).Adm) .tc) PUnit
  | 0 => do
      hlo rfl (StableHlo.unary main_v1_0 main_v5_0 id) (fun _ => .ret ⟨⟩)
      hlo rfl (StableHlo.unary main_v1_1 main_v5_1 id) (fun _ => .ret ⟨⟩)
      pure ⟨⟩
  | 1 => do
      Prog.lift (.customCall (Pipeline.entry 1) ())
      hlo rfl (StableHlo.unary main_case0b1_v10_0 main_v5_0 id) (fun _ => .ret ⟨⟩)
      hlo rfl (StableHlo.unary main_case0b1_v10_1 main_v5_1 id) (fun _ => .ret ⟨⟩)
      pure ⟨⟩
  | ⟨_ + 2, h⟩ => absurd h (Nat.not_lt.2 (Nat.le_add_left _ _))

/-- The read of the word as printed. -/
abbrev rdProg : Prog (TpuEff nD τ sig (Elt F) (HostLoop.Sig (Pipeline.Sig Λ₀ (Fin 2) fun p => (pcfgs (F := F) p).Adm) 0) .tc) (BitVec 32) :=
  hlo rfl (rdOp (F := F)) (HostLoop.elt main_v4)

/-- What the branch holds before it reads its word, -/
abbrev cpre (c : Dev nD) : sProp 𝕄 := iprop(held (c : Thread nD τ) (Pipeline.ucRefs τ sig) (W3 m c) ∗ Rw c)
/-- after it has, -/
abbrev cmid (c : Dev nD) : sProp 𝕄 := iprop(held (c : Thread nD τ) (Pipeline.ucRefs τ sig) (W4 m c) ∗ Rw c)
/-- and after the arm. -/
abbrev cpost (c : Dev nD) : sProp 𝕄 := iprop(held (c : Thread nD τ) (Pipeline.ucRefs τ sig) (W5 m (HostLoop.branch (word m c) 1) c) ∗ Rw c)
/-- The arm that can be taken is the one that the word names. -/
abbrev alive (b : Fin 2) : Prop := ∀ c : Dev nD, b = HostLoop.branch (word m c) 1

set_option backward.isDefEq.respectTransparency.types false in
/-- The read of the word: one operation, its result read for its element. -/
theorem read_spec (c : Dev nD) (bd : Option (Variants.lift Variants.none).V) :
    (iprop(boundary (c : Thread nD τ) ∗ cpre m c) : sProp 𝕄)
      ⊢ wp frame (wpE (HostLoop.defs loops (Pipeline.defs (pcfgs (F := F)) defs₀)) (Variants.lift Variants.none) (c : Thread nD τ) bd) Set.univ (rdProg (F := F))
          (fun v => iprop(⌜alive m (HostLoop.branch v 1)⌝ ∗ boundary (c : Thread nD τ) ∗ cmid m c)) := by
  unfold rdProg
  iintro ⟨Hb, Hh, HR⟩
  iapply (StableHlo.wp_hlo_within (Variants.lift Variants.none) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr
  · ipureintro
    intro c'
    obtain rfl : c' = c := Subsingleton.elim _ _
    rfl
  isplitl [Hb]; · iexact Hb
  isplitl [Hh]; · unfold W4; rw [StableHlo.after_cons, StableHlo.after_nil]; iexact Hh
  iexact HR

/-- The first call from the contents before it. -/
def R0 : Pipeline.RegionSeg (pcfgs (F := F)) adm (pd0 (at' (W1 m))) () defs₀ Variants.none L lv 0 :=
  reg0 (at' (W1 m)) (at' (W2 m)) (fun c => put3_fst _ _ _ _ (by decide) (by decide)) (fun c => put3_snd _ _ _ _ (by decide))
    (fun c => put3_trd _ _ _ _) (fun c b h h' h'' => put3_ne _ _ _ _ b h h' h'')
/-- The second. -/
def R1 : Pipeline.RegionSeg (pcfgs (F := F)) adm (pd1 (at' (W4 m))) () defs₀ Variants.none L lv 1 :=
  reg1 (at' (W4 m)) (at' (W4r m)) (fun c => put3_fst _ _ _ _ (by decide) (by decide)) (fun c => put3_snd _ _ _ _ (by decide))
    (fun c => put3_trd _ _ _ _) (fun c b h h' h'' => put3_ne _ _ _ _ b h h' h'')

/-- The arms' segments. -/
def armSegs : Fin 2 → List (CSeg (pcfgs (F := F)) adm defs₀ Variants.none L lv loops (tk m))
  | 0 => [CSeg.ofOps _ _ _ _ _ _ _ _ (Pipeline.ucRefs τ sig) cp0 (sub_of_forall cp0_sub) (by intro op h; fin_cases h <;> rfl) (W4 m) Rw]
  | 1 => [CSeg.region _ _ () cellOf_inj _ _ _ _ _ _ (1 : Fin 2) (R1 m),
      CSeg.ofOps _ _ _ _ _ _ _ _ (Pipeline.ucRefs τ sig) cp1 (sub_of_forall cp1_sub) (by intro op h; fin_cases h <;> rfl) (W4r m) Rw]

/-- The arm that the word names leads from the state before it to the state after the branch. -/
theorem arm_chain (c : Dev nD) : ∀ (b : Fin 2), b = HostLoop.branch (word m c) 1 → CSeg.ChainsAt c (cmid m) (armSegs m b) (cpost m)
  | 0, hb => ⟨.rfl, by
      show iprop(held (c : Thread nD τ) (Pipeline.ucRefs τ sig) (W5 m 0 c) ∗ Rw c)
        ⊢ iprop(held (c : Thread nD τ) (Pipeline.ucRefs τ sig) (W5 m (HostLoop.branch (word m c) 1) c) ∗ Rw c)
      rw [← hb]⟩
  | 1, hb => ⟨Entails.of_eq (thread_eq (W4 m c) c), Entails.of_eq (thread_eq (W4r m c) c).symm, by
      show iprop(held (c : Thread nD τ) (Pipeline.ucRefs τ sig) (W5 m 1 c) ∗ Rw c)
        ⊢ iprop(held (c : Thread nD τ) (Pipeline.ucRefs τ sig) (W5 m (HostLoop.branch (word m c) 1) c) ∗ Rw c)
      rw [← hb]⟩

/-- The branch. -/
def condW : CaseSeg (pcfgs (F := F)) adm defs₀ Variants.none L lv loops (tk m) :=
  { on := fun _ => True
    N := 1
    rd := rdProg
    br := fun b => HostLoop.liftProg (armProg b)
    pre := cpre m
    mid := fun _ => cmid m
    post := cpost m
    live := alive m
    hrd := fun c _ bd => read_spec m c bd
    segs := armSegs m
    hch := fun c _ v hv => by
      have hb := hv c
      show CSeg.ChainsAt c (cmid m) (armSegs m (HostLoop.branch v 1)) (cpost m)
      exact arm_chain m c _ hb
    hbr := fun b _ => by fin_cases b <;> rfl
    B := (Pipeline.pin (pcfgs (F := F)) adm 1).tripCount + 1
    hM := fun b _ s hs => by
      fin_cases b
      · obtain rfl := List.mem_singleton.mp hs; exact Nat.zero_le _
      · rcases List.mem_cons.mp hs with rfl | hs
        · exact le_rfl
        · obtain rfl := List.mem_singleton.mp hs; exact Nat.zero_le _
    T := {1}
    hT := fun b _ s hs => by
      fin_cases b
      · obtain rfl := List.mem_singleton.mp hs; exact Finset.empty_subset _
      · rcases List.mem_cons.mp hs with rfl | hs
        · exact subset_rfl
        · obtain rfl := List.mem_singleton.mp hs; exact Finset.empty_subset _
    hdisT := fun b _ => by
      fin_cases b
      · exact List.pairwise_singleton ..
      · exact List.pairwise_cons.mpr ⟨fun s hs => by obtain rfl := List.mem_singleton.mp hs; exact Finset.disjoint_empty_right _, List.pairwise_singleton ..⟩ }

/-- Where each call's set-up is kept. -/
theorem tk_EP (j : Fin 2) : (tk m j).EP = embAt j := by fin_cases j <;> rfl

/-- The whole program's segments. -/
def segs (_ : Dev nD) : List (CSeg (pcfgs (F := F)) adm defs₀ Variants.none L lv loops (tk m)) :=
  [ CSeg.ofOps _ _ _ _ _ _ _ _ (Pipeline.ucRefs τ sig) hostOps0 (sub_of_forall hostOps0_sub) (by intro op h; fin_cases h <;> rfl) (W0 m) Rw,
    CSeg.region _ _ () cellOf_inj _ _ _ _ _ _ (0 : Fin 2) (R0 m),
    CSeg.ofOps _ _ _ _ _ _ _ _ (Pipeline.ucRefs τ sig) hostOps1 (sub_of_forall hostOps1_sub) (by intro op h; fin_cases h <;> rfl) (W2 m) Rw,
    CSeg.case _ _ _ _ _ _ _ _ (condW m),
    CSeg.ofOps _ _ _ _ _ _ _ _ (Pipeline.ucRefs τ sig) hostOps1_1 (sub_of_forall hostOps1_1_sub) (by intro op h; fin_cases h <;> rfl)
      (fun c => W5 m (HostLoop.branch (word m c) 1) c) Rw ]

set_option maxRecDepth 100000 in
set_option backward.isDefEq.respectTransparency.types false in
/-- The program, with its calls read under host loops, is the segments' programs in order. -/
theorem main_run (c : Dev nD) : HostLoop.liftProg (L := 0) (main (F := F) c) = CSeg.runL (segs m c) := by
  rw [main_chain, HostLoop.liftProg_chain]
  simp only [List.map_cons, List.map_nil, HostLoop.liftProg_seq, HostLoop.liftProg_bind]
  rfl

/-- The parts of the program use different set-ups. -/
theorem segs_disjoint (c : Dev nD) : (segs m c).Pairwise fun s s' => Disjoint s.T s'.T := by
  unfold segs
  refine List.pairwise_cons.mpr ⟨fun _ _ => Finset.disjoint_empty_left _, List.pairwise_cons.mpr ⟨fun s hs => ?_,
    List.pairwise_cons.mpr ⟨fun _ _ => Finset.disjoint_empty_left _, List.pairwise_cons.mpr ⟨fun s hs => ?_, List.pairwise_singleton ..⟩⟩⟩⟩
  · rcases List.mem_cons.mp hs with rfl | hs
    · exact Finset.disjoint_empty_right _
    rcases List.mem_cons.mp hs with rfl | hs
    · exact Finset.disjoint_singleton.mpr (by decide)
    obtain rfl := List.mem_singleton.mp hs
    exact Finset.disjoint_empty_right _
  · obtain rfl := List.mem_singleton.mp hs
    exact Finset.disjoint_empty_right _

/-- Every semaphore of the TensorCore is a call's own. -/
theorem no_unscoped : ∀ sm : SemLoc sig, sm.isScoped .tc = true := by decide

/-- The element that the launch begins from: a copy of the pipelines' for each call. -/
abbrev u0 : UU := (fun _ => Rounds.initOf (Pipeline.cells (Pipeline.pin (pcfgs (F := F)) adm) cellOf_inj) (Pipeline.launchToks (Pipeline.pin (pcfgs (F := F)) adm) cellOf_inj), 1)

set_option maxRecDepth 100000 in
set_option backward.isDefEq.respectTransparency.types false in
/-- From any memory, with every semaphore at zero, the program with its calls read under host loops ends, with every array at `W6` and
    every semaphore at zero. -/
theorem run_lift (g : Dev nD → PrngReg) : θ_run (HostLoop.defs loops (Pipeline.defs (pcfgs (F := F)) defs₀))
    (onTc (τ := τ) fun d => HostLoop.liftProg (L := 0) (main (F := F) d)) ⟨m, fun _ => 0, g⟩
    (fun r => (∀ (c : Dev nD), ∀ b ∈ Pipeline.ucRefs τ sig, r.2.mem ((c : Thread nD τ).1, b) = W6 m c b) ∧ r.2.sem = fun _ => 0) :=
  Pipeline.θ_run_regions_loop_kit_dev_sems (pcfgs (F := F)) adm cellOf_inj defs₀ Variants.none L lv loops (tk m) m g
    (fun d => HostLoop.liftProg (L := 0) (main (F := F) d)) (segs m)
    (fun c Q => by rw [main_run m c]) (segs_disjoint m)
    (O₀ := fun _ => 0) (hL := fun _ _ => rfl) (G := fun _ => BI.emp)
    (u₀ := u0 (F := F))
    (hu₀ := by
      iintro Hu
      ihave H := (ownU_pair _ _) $$ Hu
      icases H with ⟨HX, -⟩
      imodintro
      isplitl [HX]
      · ihave H := (own_iprod _) $$ HX
        iapply (Entails.of_eq (bigSep_congr fun j _ => by rw [tk_EP]))
        iexact H
      rw [BI.bigSep_emp_const]; iempintro)
    (T₀ := fun c => iprop(held (c : Thread nD τ) (Pipeline.ucRefs τ sig) (W0 m c) ∗ Rw c))
    (Tₙ := fun c => held (c : Thread nD τ) (Pipeline.ucRefs τ sig) (W6 m c))
    (hch := fun c => ⟨.rfl, Entails.of_eq (thread_eq (W1 m c) c), Entails.of_eq (thread_eq (W2 m c) c).symm,
      CSeg.case_pre _ _ _ _ _ _ _ _ (condW m) trivial, .rfl, .rfl⟩)
    (hinit := by
      iintro ⟨H, -⟩
      imodintro
      iapply (show _ ⊢ _ from bigSep_mono fun (c : Dev nD) _ => (show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ BI.emp)
          ⊢ iprop(held (c : Thread nD τ) (Pipeline.ucRefs τ sig) (W0 m c) ∗ Rw c) by
        iintro ⟨Hub, -, HO, -⟩
        isplitl [Hub]
        · rw [← Pipeline.unscopedBufs_held c (W0 m c)]; iexact Hub
        iexists _; iexact HO))
      iexact H)
    (QY := fun c s => ∀ b ∈ Pipeline.ucRefs τ sig, s.mem ((c : Thread nD τ).1, b) = W6 m c b)
    (hfin := fun c s' => by
      unfold StableHlo.held
      iintro ⟨Hh, HSI⟩
      ihave Hr := (pointsTo_read_all (Pipeline.ucRefs τ sig) (fun b => ((c : Thread nD τ).1, b)) (W6 m c) s') $$ [Hh HSI]
      · isplitl [Hh] <;> iassumption
      icases Hr with ⟨%h, HSI⟩
      imodintro
      isplitr
      · ipureintro; exact h
      iexact HSI)
    (hQ := fun _ h hz => ⟨h, funext fun g => hz g (.inr (no_unscoped g.2))⟩)

/-- From any memory, with every semaphore at zero, the program ends, with every array at `W6` and every semaphore at zero. -/
theorem run (g : Dev nD → PrngReg) : θ_run (defs (F := F)) (onTc (τ := τ) (main (F := F))) ⟨m, fun _ => 0, g⟩
    (fun r => (∀ (c : Dev nD), ∀ b ∈ Pipeline.ucRefs τ sig, r.2.mem ((c : Thread nD τ).1, b) = W6 m c b) ∧ r.2.sem = fun _ => 0) :=
  HostLoop.θ_run_of_lift loops (Pipeline.defs (pcfgs (F := F)) defs₀) (main (F := F)) _ _ (run_lift m g)

end Cert.KernelIdeal.Hand
end
-- ==== Proof.Frame.lean ====
/-
  The program leaves its arguments unchanged, and the two results' contents in terms of what the calls write.
-/
module

public import proofs.«01_k».proof.Proof.Run

@[expose] public section
noncomputable section
namespace Cert.KernelIdeal.Hand
open Cert.KernelIdeal Cert.KernelIdeal.Gen
open Idealize.ShloMosaic
open Idealize.ShloMosaic.TcCoe
open Idealize.SL.Sem
open Idealize.ShloMosaic.StableHlo (after)

variable {F : FTy → Type} [FloatOps F]

variable (m : (ℓ : Loc nD τ sig) → Buf (Elt F) ℓ)

/-- An array that no region scopes is among those that the run reports. -/
theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

/-- Operations that write none of an array leave it. -/
theorem after_ne {ops : List (HloOp τ sig (Elt F))} {b : Ref sig .tc} (h : ∀ op ∈ ops, Proc.devRef .tc b ∉ op.writes) (V : Valuation τ sig (Elt F)) :
    after ops V (Proc.devRef .tc b) = V (Proc.devRef .tc b) := StableHlo.after_of_forall_not_mem ops V h

/-- No operation writes an argument. -/
theorem args_unwritten (b : Ref sig .tc) (hb : b = main_arg0 ∨ b = main_arg1) :
    ∀ l ∈ [(hostOps0 : List (HloOp τ sig (Elt F))), hostOps1, [rdOp], cp0, cp1, hostOps1_1], ∀ op ∈ l, Proc.devRef .tc b ∉ op.writes := by
  intro l hl op hop
  fin_cases hl <;> fin_cases hop <;> rcases hb with rfl | rfl <;>
    exact fun h => StableHlo.devRef_ne_of_ne (by decide) (Finset.mem_singleton.mp h)

/-- An argument at the end is as at the launch. -/
theorem W6_arg (b : Ref sig .tc) (hb : b = main_arg0 ∨ b = main_arg1) (c : Dev nD) : W6 m c (Proc.devRef .tc b) = m ((c : Thread nD τ).loc b) := by
  have hn := args_unwritten (F := F) b hb
  have h1 : W1 m c (Proc.devRef .tc b) = m ((c : Thread nD τ).loc b) := after_ne (hn _ (by simp)) _
  have h2 : W2 m c (Proc.devRef .tc b) = W1 m c (Proc.devRef .tc b) := by
    rcases hb with rfl | rfl <;> exact put3_ne _ _ _ _ _ (by decide) (by decide) (by decide)
  have h4 : W4 m c (Proc.devRef .tc b) = W2 m c (Proc.devRef .tc b) :=
    (after_ne (hn [rdOp] (by simp)) _).trans (after_ne (hn hostOps1 (by simp)) _)
  have h4r : W4r m c (Proc.devRef .tc b) = W4 m c (Proc.devRef .tc b) := by
    rcases hb with rfl | rfl <;> exact put3_ne _ _ _ _ _ (by decide) (by decide) (by decide)
  have h5 : ∀ d : Fin 2, W5 m d c (Proc.devRef .tc b) = W4 m c (Proc.devRef .tc b)
    | 0 => after_ne (hn cp0 (by simp)) _
    | 1 => (after_ne (hn cp1 (by simp)) _).trans h4r
  exact (after_ne (hn hostOps1_1 (by simp)) _).trans ((h5 _).trans (h4.trans (h2.trans h1)))

/-- The program ends, its arguments unchanged and every semaphore at zero. -/
theorem frame (g : Dev nD → PrngReg) : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c _ (mem_uc main_arg0 (by decide))).trans (W6_arg m _ (.inl rfl) c),
    (h.1 c _ (mem_uc main_arg1 (by decide))).trans (W6_arg m _ (.inr rfl) c)⟩, h.2⟩) (run m g)

end Cert.KernelIdeal.Hand
end
-- ==== Proof.KFrame.lean ====
/-
  The frame of the kernel before its operations are made ideal: that program is, text for text, the idealized one at the
  bit patterns, so the idealized program's frame is its frame.
-/
module

public import proofs.«01_k».proof.Proof.Frame
public import proofs.«01_k».proof.Proof.Gen.Kernel
public import proofs.«01_k».proof.Defs

@[expose] public section
noncomputable section
namespace Cert.Proof
open Idealize.ShloMosaic Idealize.SL.Sem

/-- The two programs' kernels are the same, label by label. -/
theorem bodies_eq : Cert.Kernel.defs₀ (F := Bits) = Cert.KernelIdeal.defs₀ (F := Bits) := by
  unfold Cert.Kernel.defs₀ Cert.KernelIdeal.defs₀
  refine congrArg Defs.onTc ?_
  funext f a
  match f, a with
  | 0, (t, s) => rfl
  | 1, (t, s) => rfl

/-- And so are their body tables. -/
theorem tables_eq : Cert.Kernel.defs (F := Bits) = Cert.KernelIdeal.defs (F := Bits) :=
  congrArg (Pipeline.defs (Cert.KernelIdeal.pcfgs (F := Bits))) bodies_eq

/-- The kernel ends, its arguments unchanged and every semaphore at zero. -/
theorem frame_K : quiescent_Kernel (hKernel := Cert.Kernel.Gen.facts) := fun m g _ => by
  rw [tables_eq]
  exact Cert.KernelIdeal.Hand.frame (F := Bits) m g
end Cert.Proof
end
-- ==== Proof.Pure.lean ====
/-
  Facts about one row of numbers, with no program in them: a stable descending sort lists the entries by size and then by
  position; taking the first greatest entry five times takes the first five of that list; and thresholds that go down
  through the distinct values leave at least five entries.
-/
module

public import Idealize.ShloMosaic.Lib.SortFacts
public import Mathlib.Data.EReal.Basic
public import Mathlib.Data.EReal.Operations

@[expose] public section
noncomputable section
namespace Cert.Sparse
open Idealize.ShloMosaic

variable {n : ℕ}

/-- Entry `i` comes before entry `j`: it is greater, or equal and at an earlier place. -/
def bf (a : Fin n → EReal) (i j : Fin n) : Prop := a j < a i ∨ (a i = a j ∧ i < j)

/-- A list of all places in which each comes before the later ones. -/
structure Ranks (a : Fin n → EReal) (σ : Fin n → Fin n) : Prop where
  inj : Function.Injective σ
  surj : Function.Surjective σ
  ord : ∀ p q, p < q → bf a (σ p) (σ q)

/-- Of the entries in order, an earlier one is at least as great. -/
theorem Ranks.le {a : Fin n → EReal} {σ : Fin n → Fin n} (h : Ranks a σ) {p q : Fin n} (hpq : p ≤ q) : a (σ q) ≤ a (σ p) := by
  rcases eq_or_lt_of_le hpq with rfl | hlt
  · exact le_rfl
  · rcases h.ord p q hlt with h | h
    · exact h.le
    · exact h.1.ge

/-- Inserting an earlier place into an ordered list leaves it ordered. -/
theorem insert_ordered (a : Fin n → EReal) (B : Fin n → Fin n → Bool) (hB : ∀ i j, B i j = true ↔ a j < a i) (x : Fin n) (l : List (Fin n))
    (hl : l.Pairwise (bf a)) (hx : ∀ y ∈ l, x < y) : (insertBefore B x l).Pairwise (bf a) := by
  induction l with
  | nil => exact List.pairwise_singleton _ _
  | cons b l ih =>
    rw [List.pairwise_cons] at hl
    unfold insertBefore
    split
    · rename_i h
      refine List.pairwise_cons.mpr ⟨fun y hy => ?_, ih hl.2 fun y hy => hx y (List.mem_cons_of_mem _ hy)⟩
      rcases List.mem_cons.mp ((perm_insertBefore B x l).mem_iff.mp hy) with rfl | hy
      · exact .inl ((hB _ _).mp h)
      · exact hl.1 y hy
    · rename_i h
      have hbx : a b ≤ a x := not_lt.mp fun h' => h ((hB _ _).mpr h')
      have key : ∀ y, a y ≤ a b → x < y → bf a x y := fun y hy hxy =>
        (lt_or_eq_of_le (hy.trans hbx)).elim .inl fun e => .inr ⟨e.symm, hxy⟩
      refine List.pairwise_cons.mpr ⟨fun y hy => ?_, List.pairwise_cons.mpr hl⟩
      rcases List.mem_cons.mp hy with rfl | hy'
      · exact key _ le_rfl (hx _ List.mem_cons_self)
      · refine key y ?_ (hx _ hy)
        rcases hl.1 y hy' with h | h
        · exact h.le
        · exact h.1.ge

/-- The stable descending sort of places in their own order is ordered. -/
theorem sort_ordered (a : Fin n → EReal) (B : Fin n → Fin n → Bool) (hB : ∀ i j, B i j = true ↔ a j < a i) (l : List (Fin n))
    (hl : l.Pairwise (· < ·)) : (stableSort B l).Pairwise (bf a) := by
  induction l with
  | nil => exact List.Pairwise.nil
  | cons x l ih =>
    rw [List.pairwise_cons] at hl
    exact insert_ordered a B hB x _ (ih hl.2) fun y hy => hl.1 y ((perm_stableSort B l).mem_iff.mp hy)

/-- The sorted places are the ranks. -/
theorem ranks_sorted (a : Fin n → EReal) (B : Fin n → Fin n → Bool) (hB : ∀ i j, B i j = true ↔ a j < a i) : Ranks a (sortedFrom B) where
  inj := sortedFrom_injective B
  surj := sortedFrom_surjective B
  ord p q h := by
    have hp : ∀ x y : Fin (sortPositions n B).length, x < y → bf a ((sortPositions n B).get x) ((sortPositions n B).get y) :=
      List.pairwise_iff_get.mp (sort_ordered a B hB _ (List.pairwise_lt_finRange n))
    unfold sortedFrom
    exact hp _ _ (Fin.lt_def.mpr h)

/-- The places of the `k` first entries. -/
def Top (a : Fin n → EReal) (k : ℕ) (j : Fin n) : Prop := ∃ p : Fin n, p.val < k ∧ sortedFrom (fun i j => decide (a j < a i)) p = j

/-- The ranks of a row. -/
theorem ranks (a : Fin n → EReal) : Ranks a (sortedFrom fun i j => decide (a j < a i)) := ranks_sorted a _ fun _ _ => decide_eq_true_iff

/-- A set of `k` places that holds every entry at least as great as one of its own holds the first `k`. -/
theorem top_of_upper (a : Fin n → EReal) (k : ℕ) (hk : k ≤ n) (m : EReal) (hc : (Finset.univ.filter fun j => m ≤ a j).card = k) (j : Fin n) :
    m ≤ a j ↔ Top a k j := by
  classical
  have hr := ranks a
  set σ := sortedFrom fun i j => decide (a j < a i) with hσ
  let P := Finset.univ.filter fun p : Fin n => m ≤ a (σ p)
  have hcard : P.card = k := by
    rw [← hc]
    refine Finset.card_bij (fun p _ => σ p) (fun p hp => ?_) (fun p _ q _ h => hr.inj h) (fun b hb => ?_)
    · simp only [P, Finset.mem_filter, Finset.mem_univ, true_and] at hp ⊢; exact hp
    · obtain ⟨p, rfl⟩ := hr.surj b
      exact ⟨p, by simp only [P, Finset.mem_filter, Finset.mem_univ, true_and] at hb ⊢; exact hb, rfl⟩
  have hdown : ∀ p q : Fin n, p ≤ q → q ∈ P → p ∈ P := fun p q hpq hq => by
    simp only [P, Finset.mem_filter, Finset.mem_univ, true_and] at hq ⊢; exact hq.trans (hr.le hpq)
  have hP : ∀ p : Fin n, p ∈ P ↔ p.val < k := by
    intro p
    constructor
    · intro hp
      have : Finset.Iic p ⊆ P := fun q hq => hdown q p (Finset.mem_Iic.mp hq) hp
      have := Finset.card_le_card this
      rw [Fin.card_Iic, hcard] at this
      omega
    · intro hp
      by_contra hn
      have : P ⊆ Finset.Iio p := fun q hq => Finset.mem_Iio.mpr (not_le.mp fun h => hn (hdown p q h hq))
      have := Finset.card_le_card this
      rw [Fin.card_Iio, hcard] at this
      omega
  constructor
  · intro h
    obtain ⟨p, rfl⟩ := hr.surj j
    exact ⟨p, (hP p).mp (by simp only [P, Finset.mem_filter, Finset.mem_univ, true_and]; exact h), rfl⟩
  · rintro ⟨p, hp, rfl⟩
    have := (hP p).mpr hp
    simp only [P, Finset.mem_filter, Finset.mem_univ, true_and] at this; exact this

/-! ## Taking the first greatest entry, five times -/

/-- The row after `t` rounds: the first `t` entries overwritten by −1. -/
def after (a : Fin n → EReal) (t : ℕ) (j : Fin n) : EReal := by
  classical exact if Top a t j then ((-1 : ℝ) : EReal) else a j

/-- Before the first step nothing is marked. -/
theorem after_zero (a : Fin n → EReal) : after a 0 = a := by
  funext j; unfold after; rw [if_neg]; rintro ⟨p, hp, -⟩; omega

/-- The place of the first greatest entry, as a number; `n` where there is none. -/
def place (b : Fin n → EReal) : EReal := Finset.univ.inf fun j : Fin n => if b j = Finset.univ.sup b then ((j.val : ℝ) : EReal) else ((n : ℝ) : EReal)

/-- One round: the first greatest entry overwritten by −1. -/
def round (b : Fin n → EReal) (j : Fin n) : EReal := if ((j.val : ℝ) : EReal) = place b then ((-1 : ℝ) : EReal) else b j

/-- The filler −1 is below every size. -/
theorem neg_one_lt {x : EReal} (h : 0 ≤ x) : ((-1 : ℝ) : EReal) < x :=
  lt_of_lt_of_le (by rw [show (0 : EReal) = ((0 : ℝ) : EReal) from rfl]; exact EReal.coe_lt_coe_iff.mpr (by norm_num)) h

/-- A round takes the next entry in order. -/
theorem round_after (a : Fin n → EReal) (ha : ∀ j, 0 ≤ a j) (t : ℕ) (ht : t < n) : round (after a t) = after a (t + 1) := by
  classical
  have hr := ranks a
  set σ := sortedFrom fun i j => decide (a j < a i) with hσ
  have hval : ∀ p, after a t (σ p) = if p.val < t then ((-1 : ℝ) : EReal) else a (σ p) := by
    intro p; unfold after
    have : Top a t (σ p) ↔ p.val < t := ⟨fun ⟨q, hq, e⟩ => by rw [← hr.inj e]; exact hq, fun h => ⟨p, h, rfl⟩⟩
    simp only [this]
  let p₀ : Fin n := ⟨t, ht⟩
  have h₀ : after a t (σ p₀) = a (σ p₀) := by rw [hval, if_neg (lt_irrefl _)]
  have hsup : Finset.univ.sup (after a t) = a (σ p₀) := by
    refine le_antisymm (Finset.sup_le fun j _ => ?_) (h₀ ▸ Finset.le_sup (f := after a t) (Finset.mem_univ (σ p₀)))
    obtain ⟨p, rfl⟩ := hr.surj j
    rw [hval]
    split
    · exact (neg_one_lt (ha _)).le
    · rename_i h; exact hr.le (Fin.le_def.mpr (not_lt.mp h))
  have hplace : place (after a t) = (((σ p₀).val : ℝ) : EReal) := by
    unfold place
    refine le_antisymm ?_ (Finset.le_inf fun j _ => ?_)
    · refine (Finset.inf_le (Finset.mem_univ (σ p₀))).trans ?_
      rw [if_pos (by rw [hsup, h₀])]
    · split
      · rename_i h
        obtain ⟨p, rfl⟩ := hr.surj j
        rw [hsup, hval] at h
        by_cases hp : p.val < t
        · rw [if_pos hp] at h; exact absurd h (neg_one_lt (ha _)).ne
        · rw [if_neg hp] at h
          rcases eq_or_lt_of_le (Fin.le_def.mpr (not_lt.mp hp) : p₀ ≤ p) with e | hlt
          · rw [← e]
          · rcases hr.ord p₀ p hlt with h' | h'
            · exact absurd h h'.ne
            · exact EReal.coe_le_coe_iff.mpr (Nat.cast_le.mpr (Fin.le_def.mp h'.2.le))
      · exact EReal.coe_le_coe_iff.mpr (Nat.cast_le.mpr (σ p₀).isLt.le)
  funext j
  obtain ⟨p, rfl⟩ := hr.surj j
  unfold round
  rw [hplace]
  have hiff : (((σ p).val : ℝ) : EReal) = (((σ p₀).val : ℝ) : EReal) ↔ p = p₀ := by
    rw [EReal.coe_eq_coe_iff, Nat.cast_inj, Fin.val_inj]; exact hr.inj.eq_iff
  have hnext : after a (t + 1) (σ p) = if p.val < t + 1 then ((-1 : ℝ) : EReal) else a (σ p) := by
    unfold after
    have : Top a (t + 1) (σ p) ↔ p.val < t + 1 := ⟨fun ⟨q, hq, e⟩ => by rw [← hr.inj e]; exact hq, fun h => ⟨p, h, rfl⟩⟩
    simp only [this]
  rw [hnext, hval]
  simp only [hiff]
  by_cases hp : p = p₀
  · rw [if_pos hp, if_pos (by rw [hp]; exact Nat.lt_succ_self t)]
  · rw [if_neg hp]
    have : p.val ≠ t := fun h => hp (Fin.ext h)
    by_cases h : p.val < t
    · rw [if_pos h, if_pos (by omega)]
    · rw [if_neg h, if_neg (by omega)]

/-- The entries below zero after `t` rounds are the first `t`. -/
theorem after_neg (a : Fin n → EReal) (ha : ∀ j, 0 ≤ a j) (t : ℕ) (j : Fin n) : after a t j < 0 ↔ Top a t j := by
  classical
  unfold after
  constructor
  · intro h; by_contra hn; rw [if_neg hn] at h; exact absurd h (not_lt.mpr (ha j))
  · intro h; rw [if_pos h]; exact_mod_cast (by norm_num : (-1 : ℝ) < 0)

/-! ## Thresholds -/

/-- A number that is no entry of the row is at most −1. -/
def In (S : Set EReal) (x : EReal) : Prop := x ≤ ((-1 : ℝ) : EReal) ∨ x ∈ S

/-- The next threshold: the greatest entry below `m`, or −1. -/
def next {ι : Type} [Fintype ι] (a : ι → EReal) (m : EReal) : EReal := Finset.univ.sup fun i => if m ≤ a i then ((-1 : ℝ) : EReal) else a i

/-- The larger of two members is one, -/
theorem in_max {S : Set EReal} {x y : EReal} (hx : In S x) (hy : In S y) : In S (max x y) := by
  rcases max_choice x y with h | h <;> rw [h] <;> assumption
/-- and the smaller, -/
theorem in_min {S : Set EReal} {x y : EReal} (hx : In S x) (hy : In S y) : In S (min x y) := by
  rcases min_choice x y with h | h <;> rw [h] <;> assumption

/-- and the largest of finitely many, -/
theorem in_sup {ι : Type} [Fintype ι] [Nonempty ι] {S : Set EReal} {a : ι → EReal} (ha : ∀ i, In S (a i)) : In S (Finset.univ.sup a) := by
  obtain ⟨i, -, h⟩ := Finset.exists_mem_eq_sup Finset.univ Finset.univ_nonempty a
  rw [h]; exact ha i

/-- and the largest below a threshold, -/
theorem in_next {ι : Type} [Fintype ι] [Nonempty ι] {S : Set EReal} {a : ι → EReal} (ha : ∀ i, In S (a i)) (m : EReal) : In S (next a m) :=
  in_sup fun i => by split; exacts [.inl le_rfl, ha i]

/-- A threshold above −1 is below the one before it. -/
theorem next_lt {ι : Type} [Fintype ι] [Nonempty ι] (a : ι → EReal) (m : EReal) (h : ((-1 : ℝ) : EReal) < next a m) : next a m < m := by
  unfold next at h ⊢
  obtain ⟨i, -, e⟩ := Finset.exists_mem_eq_sup Finset.univ Finset.univ_nonempty fun i => if m ≤ a i then ((-1 : ℝ) : EReal) else a i
  rw [e] at h ⊢
  by_cases hm : m ≤ a i
  · rw [if_pos hm] at h; exact absurd h (lt_irrefl _)
  · rw [if_neg hm]; exact not_le.mp hm

/-- The `k`-th threshold. -/
def thr {ι : Type} [Fintype ι] (a : ι → EReal) : ℕ → EReal
  | 0 => Finset.univ.sup a
  | k + 1 => next a (thr a k)

/-- and so every threshold. -/
theorem in_thr {ι : Type} [Fintype ι] [Nonempty ι] {S : Set EReal} {a : ι → EReal} (ha : ∀ i, In S (a i)) : ∀ k, In S (thr a k)
  | 0 => in_sup ha
  | k + 1 => in_next ha _

/-- At or above the `k`-th threshold there are more than `k` entries of the row, if the row has more than `k`. -/
theorem card_thr {ι : Type} [Fintype ι] [Nonempty ι] (c : ι → EReal) (a : Fin n → EReal) (ha : ∀ j, 0 ≤ a j) (hc : ∀ i, In (Set.range a) (c i)) (k : ℕ) (hk : k < n) :
    k + 1 ≤ (Finset.univ.filter fun j => thr c k ≤ a j).card := by
  classical
  by_cases h : ((-1 : ℝ) : EReal) < thr c k
  · -- the thresholds so far are distinct entries
    have hall : ∀ d t, t + d = k → ((-1 : ℝ) : EReal) < thr c t ∧ thr c k ≤ thr c t := by
      intro d
      induction d with
      | zero => intro t ht; rw [show t = k by omega]; exact ⟨h, le_rfl⟩
      | succ d ih =>
        intro t ht
        obtain ⟨h1, h2⟩ := ih (t + 1) (by omega)
        have hlt : thr c (t + 1) < thr c t := next_lt c _ h1
        exact ⟨h1.trans hlt, h2.trans hlt.le⟩
    have hdec : ∀ s t, s < t → t ≤ k → thr c t < thr c s := by
      intro s t hst
      induction t with
      | zero => omega
      | succ t ih =>
        intro htk
        have h1 := (hall (k - (t + 1)) (t + 1) (by omega)).1
        have hlt : thr c (t + 1) < thr c t := next_lt c _ h1
        rcases Nat.lt_or_ge s t with h' | h'
        · exact hlt.trans (ih h' (by omega))
        · rw [show s = t by omega]; exact hlt
    have hmem : ∀ t : Fin (k + 1), ∃ j, a j = thr c t := by
      intro t
      obtain ⟨h1, -⟩ := hall (k - t) t (by have := t.isLt; omega)
      rcases in_thr hc t with h' | h'
      · exact absurd h1 (not_lt.mpr h')
      · exact h'
    choose f hf using hmem
    have hinj : Function.Injective f := by
      intro s t e
      have e' : thr c s = thr c t := by rw [← hf, ← hf, e]
      rcases lt_trichotomy s t with h' | h' | h'
      · exact absurd e' (hdec s t h' (by have := t.isLt; omega)).ne'
      · exact h'
      · exact absurd e' (hdec t s h' (by have := s.isLt; omega)).ne
    calc k + 1 = (Finset.univ.image f).card := by rw [Finset.card_image_of_injective _ hinj, Finset.card_univ, Fintype.card_fin]
      _ ≤ _ := Finset.card_le_card fun j hj => by
        obtain ⟨t, -, rfl⟩ := Finset.mem_image.mp hj
        rw [Finset.mem_filter, hf]
        exact ⟨Finset.mem_univ _, (hall (k - t) t (by have := t.isLt; omega)).2⟩
  · rw [Finset.filter_true_of_mem fun j _ => (not_lt.mp h).trans (neg_one_lt (ha j)).le, Finset.card_univ, Fintype.card_fin]
    exact hk

end Cert.Sparse
end
-- ==== Proof.Exact.lean ====
/-
  The second call's marks of a block: the five entries of each row that come first, by size and then by position.
-/
module

public import proofs.«01_k».proof.Proof.Body1
public import proofs.«01_k».proof.Proof.Pure
public import Idealize.ShloMosaic.Lib.Pointwise

@[expose] public section
noncomputable section
namespace Cert.KernelIdeal.Hand
open Cert.KernelIdeal Cert.KernelIdeal.Gen
open Idealize.ShloMosaic
open Cert.Sparse

/-- The literal −1. -/
theorem lit_neg_one : Ideal.ofBits .f32 0xBF800000#32 = ((-1 : ℝ) : EReal) := by
  simp [Ideal.ofBits, Ideal.ieee]
  rw [← EReal.coe_mul]
  norm_num
/-- The literal 8192. -/
theorem lit_8192 : Ideal.ofBits .f32 0x46000000#32 = ((8192 : ℝ) : EReal) := by
  simp [Ideal.ofBits, Ideal.ieee]
  rw [← EReal.coe_mul]
  norm_num
/-- The literal −∞. -/
theorem lit_bot : Ideal.ofBits .f32 0xFF800000#32 = ⊥ := by
  simp [Ideal.ofBits, Ideal.ieee]
/-- The literal ∞. -/
theorem lit_top : Ideal.ofBits .f32 0x7F800000#32 = ⊤ := by
  simp [Ideal.ofBits, Ideal.ieee]

/-- The counter along a row. -/
theorem iota_apply (r : Fin 384) (j : Fin 8192) : k1_pay8 (F := Ideal) (ix2 r j) = ((j.val : ℝ) : EReal) := by
  pointwise [k1_pay8]
  show (((BitVec.ofNat 32 j.val).toInt : ℝ) : EReal) = _
  have : (BitVec.ofNat 32 j.val).toInt = j.val := by
    have := j.isLt
    rw [BitVec.toInt_eq_toNat_of_lt (by rw [BitVec.toNat_ofNat]; omega), BitVec.toNat_ofNat]
    omega
  rw [this]; simp
/-- A column spread over the rows. -/
theorem col_apply (u : FVec Ideal S384 .f32) (r : Fin 384) (j : Fin 8192) :
    (broadcastTo S384x8192 (shapeCast S384x1 u shapeCasts_S384_S384x1) broadcasts_S384x1_S384x8192) (ix2 r j) = u (ix1 r) := by
  pointwise
/-- The greatest entry of each row of a block. -/
def rowMax (v : FVec Ideal S384x8192 .f32) : FVec Ideal S384 .f32 :=
  multiReduction .maximumf [1] S384 v 0xFF800000#32 reduces_S384x8192_S384 (.inl rfl) rfl
/-- The least entry of each row of a block. -/
def rowMin (v : FVec Ideal S384x8192 .f32) : FVec Ideal S384 .f32 :=
  multiReduction .minimumf [1] S384 v 0x7F800000#32 reduces_S384x8192_S384 (.inl rfl) rfl
/-- A column spread over the rows. -/
def col (u : FVec Ideal S384 .f32) : FVec Ideal S384x8192 .f32 :=
  broadcastTo S384x8192 (shapeCast S384x1 u shapeCasts_S384_S384x1) broadcasts_S384x1_S384x8192
/-- Its entries. -/
theorem col_at (u : FVec Ideal S384 .f32) (r : Fin 384) (j : Fin 8192) : col u (ix2 r j) = u (ix1 r) := col_apply u r j
/-- The greatest entry of a row, as a supremum. -/
theorem rowMax_at (v : FVec Ideal S384x8192 .f32) (r : Fin 384) : rowMax v (ix1 r) = Finset.univ.sup fun k => v (ix2 r k) := by
  have h : rowMax v (ix1 r) = Finset.fold max (Ideal.ofBits .f32 0xFF800000#32) (fun k : Fin 8192 => v (ix2 r k)) Finset.univ := by
    simp only [rowMax, pointwise]
  rw [h, lit_bot]; rfl
/-- The least entry of a row, as an infimum. -/
theorem rowMin_at (v : FVec Ideal S384x8192 .f32) (r : Fin 384) : rowMin v (ix1 r) = Finset.univ.inf fun k => v (ix2 r k) := by
  have h : rowMin v (ix1 r) = Finset.fold min (Ideal.ofBits .f32 0x7F800000#32) (fun k : Fin 8192 => v (ix2 r k)) Finset.univ := by
    simp only [rowMin, pointwise]
  rw [h, lit_top]; rfl

/-- The place of each row's first greatest entry. -/
def places (v : FVec Ideal S384x8192 .f32) : FVec Ideal S384x8192 .f32 :=
  select (cmpf .oeq v (col (rowMax v))) (k1_pay8 (F := Ideal)) (broadcast S384x8192 (Scalar.ofBits .f32 0x46000000#32))
/-- One round over the rows of a block: the first greatest entry of each overwritten by −1. -/
def rnd (v : FVec Ideal S384x8192 .f32) : FVec Ideal S384x8192 .f32 :=
  select (cmpf .oeq (k1_pay8 (F := Ideal)) (col (rowMin (places v)))) (broadcast S384x8192 (Scalar.ofBits .f32 0xBF800000#32)) v

/-- Reading an equality test and a choice together. -/
theorem sel_eq {s : Shape} (x y a b : FVec Ideal s .f32) (i : s.Idx) : select (cmpf .oeq x y) a b i = if x i = y i then a i else b i := by
  show Scalar.select (Ideal.cmp .oeq (x i) (y i)) (a i) (b i) = _
  unfold Ideal.cmp Scalar.select
  by_cases h : x i = y i <;> simp [h]
/-- Reading a sign test. -/
theorem neg_iff {s : Shape} (x : FVec Ideal s .f32) (i : s.Idx) :
    cmpf .olt x (broadcast s (Scalar.ofBits .f32 0x00000000#32)) i = 1#1 ↔ x i < 0 := by
  have h : cmpf .olt x (broadcast s (Scalar.ofBits .f32 0x00000000#32)) i = Ideal.cmp .olt (x i) (Ideal.ofBits .f32 0x00000000#32) := rfl
  rw [h, Ideal.ofBits_zero_f32]
  unfold Ideal.cmp
  by_cases h : x i < 0 <;> simp [h]
/-- A literal at an index. -/
theorem lit_at {s : Shape} (w : BitVec 32) (i : s.Idx) : (broadcast s (Scalar.ofBits (F := Ideal) .f32 w)) i = Ideal.ofBits .f32 w := rfl

/-- A round reads only its own row, and is a round there. -/
theorem rnd_apply (v : FVec Ideal S384x8192 .f32) (r : Fin 384) (j : Fin 8192) :
    rnd v (ix2 r j) = Sparse.round (fun k => v (ix2 r k)) j := by
  have hs : ∀ k, places v (ix2 r k)
      = if v (ix2 r k) = (Finset.univ.sup fun k => v (ix2 r k)) then ((k.val : ℝ) : EReal) else (((8192 : ℕ) : ℝ) : EReal) := by
    intro k
    unfold places
    rw [sel_eq, col_at, rowMax_at, iota_apply, lit_at, lit_8192]
    norm_num
  unfold rnd
  rw [sel_eq, col_at, rowMin_at, iota_apply, lit_at, lit_neg_one]
  simp only [hs]
  rfl

/-- The second call's rounds are these. -/
theorem st1_eq (b : Vec Ideal S1x384x8192 .f32) : st1 b = rnd (rnd (rnd (rnd (absf (k1_pay7 b))))) := rfl
/-- And the fifth mark is the place the fifth round overwrites. -/
theorem over1_eq (b : Vec Ideal S1x384x8192 .f32) :
    select (hit1 b) (broadcast S384x8192 ov1) (st1 b) = rnd (st1 b) := rfl

/-- The block that the rows of a block are marked by. -/
def mk1 (b : Vec Ideal S1x384x8192 .f32) : IVec S384x8192 1 := k1_pay13 (st1 b) (hit1 b) (ov1 (F := Ideal))

/-- The sizes of a row's entries. -/
def sizes (c : FVec Ideal S384x8192 .f32) (r : Fin 384) (j : Fin 8192) : EReal := max (c (ix2 r j)) (-(c (ix2 r j)))

/-- A size is not negative. -/
theorem sizes_nonneg (c : FVec Ideal S384x8192 .f32) (r : Fin 384) (j : Fin 8192) : 0 ≤ sizes c r j := by
  unfold sizes
  rcases le_total 0 (c (ix2 r j)) with h | h
  · exact le_max_of_le_left h
  · exact le_max_of_le_right (EReal.neg_nonneg.mpr h)

/-- The second call marks the first five entries of each row. -/
theorem mk1_iff (b : Vec Ideal S1x384x8192 .f32) (r : Fin 384) (j : Fin 8192) :
    mk1 b (ix2 r j) = 1#1 ↔ Top (sizes (k1_pay7 b) r) 5 j := by
  have hk : mk1 b = cmpf .olt (select (hit1 b) (broadcast S384x8192 ov1) (st1 b)) (broadcast S384x8192 (Scalar.ofBits .f32 0x00000000#32)) := rfl
  have h0 : (fun k => absf (k1_pay7 b) (ix2 r k)) = after (sizes (k1_pay7 b) r) 0 := (after_zero _).symm
  have step : ∀ (t : ℕ) (v : FVec Ideal S384x8192 .f32), t < 8192 → (fun k => v (ix2 r k)) = after (sizes (k1_pay7 b) r) t →
      (fun k => rnd v (ix2 r k)) = after (sizes (k1_pay7 b) r) (t + 1) := by
    intro t v ht hv
    funext k
    rw [rnd_apply, hv, round_after _ (sizes_nonneg _ r) t ht]
  have h5 := step 4 _ (by norm_num) (step 3 _ (by norm_num) (step 2 _ (by norm_num) (step 1 _ (by norm_num) (step 0 _ (by norm_num) h0))))
  rw [hk, over1_eq, st1_eq, neg_iff, ← after_neg _ (sizes_nonneg _ r) 5 j, ← h5]
end Cert.KernelIdeal.Hand
end
-- ==== Proof.Marks.lean ====
/-
  The first call's marks of a block: the entries no smaller than a threshold which at least five entries of the row reach.
-/
module

public import proofs.«01_k».proof.Proof.Body0
public import proofs.«01_k».proof.Proof.Exact

@[expose] public section
noncomputable section
namespace Cert.KernelIdeal.Hand
open Cert.KernelIdeal Cert.KernelIdeal.Gen
open Idealize.ShloMosaic
open Cert.Sparse

/-- A block of 384 rows. -/
abbrev Rows (n : ℕ) : Shape := ⟨2, ![384, n]⟩

variable {n : ℕ} (hr : (Rows n).Reduces [1] S384) (hb : S384x1.Broadcasts (Rows n))

/-- The greatest entry of each row, as a column. -/
def tops (v : FVec Ideal (Rows n) .f32) : FVec Ideal S384x1 .f32 :=
  shapeCast S384x1 (multiReduction .maximumf [1] S384 v 0xFF800000#32 hr (.inl rfl) rfl) shapeCasts_S384_S384x1
/-- The greatest entry of each row below a column's. -/
def below (v : FVec Ideal (Rows n) .f32) (m : FVec Ideal S384x1 .f32) : FVec Ideal S384x1 .f32 :=
  tops hr (select (cmpf .oge v (broadcastTo (Rows n) m hb)) (broadcast (Rows n) (Scalar.ofBits .f32 0xBF800000#32)) v)

/-- Its entries. -/
theorem tops_at (v : FVec Ideal (Rows n) .f32) (r : Fin 384) : tops hr v (ix2 r 0) = Finset.univ.sup fun k => v (ix2 r k) := by
  have h : tops hr v (ix2 r 0) = Finset.fold max (Ideal.ofBits .f32 0xFF800000#32) (fun k : Fin n => v (ix2 r k)) Finset.univ := by
    pointwise [tops]
  rw [h, lit_bot]; rfl
/-- A column spread over the rows. -/
theorem spread_at (m : FVec Ideal S384x1 .f32) (r : Fin 384) (k : Fin n) : broadcastTo (Rows n) m hb (ix2 r k) = m (ix2 r 0) := by
  pointwise
/-- The next threshold, row by row. -/
theorem below_at (v : FVec Ideal (Rows n) .f32) (m : FVec Ideal S384x1 .f32) (r : Fin 384) :
    below hr hb v m (ix2 r 0) = next (fun k => v (ix2 r k)) (m (ix2 r 0)) := by
  unfold below next
  rw [tops_at]
  refine Finset.sup_congr rfl fun k _ => ?_
  rw [← spread_at hb m r k]
  have h : select (cmpf .oge v (broadcastTo (Rows n) m hb)) (broadcast (Rows n) (Scalar.ofBits .f32 0xBF800000#32)) v (ix2 r k)
    = Scalar.select (Ideal.cmp .oge (v (ix2 r k)) (broadcastTo (Rows n) m hb (ix2 r k))) (Ideal.ofBits .f32 0xBF800000#32) (v (ix2 r k)) := rfl
  rw [h, lit_neg_one]
  unfold Ideal.cmp Scalar.select
  by_cases h : broadcastTo (Rows n) m hb (ix2 r k) ≤ v (ix2 r k) <;> simp [h]

/-- Every entry of a row is −1 or less, or one of the row's. -/
def Rowwise (S : Fin 384 → Set EReal) (v : FVec Ideal (Rows n) .f32) : Prop := ∀ r k, In (S r) (v (ix2 r k))

/-- The larger of two entries of a row's set is in it, -/
theorem Rowwise.max {S : Fin 384 → Set EReal} {v w : FVec Ideal (Rows n) .f32} (hv : Rowwise S v) (hw : Rowwise S w) : Rowwise S (maximumf v w) :=
  fun r k => in_max (hv r k) (hw r k)
/-- and so is the smaller. -/
theorem Rowwise.min {S : Fin 384 → Set EReal} {v w : FVec Ideal (Rows n) .f32} (hv : Rowwise S v) (hw : Rowwise S w) : Rowwise S (minimumf v w) :=
  fun r k => in_min (hv r k) (hw r k)
/-- A row's largest entry is in its set. -/
theorem Rowwise.tops [NeZero n] {S : Fin 384 → Set EReal} {v : FVec Ideal (Rows n) .f32} (hv : Rowwise S v) (r : Fin 384) : In (S r) (tops hr v (ix2 r 0)) := by
  rw [tops_at]; exact in_sup fun k => hv r k
/-- So is the largest one below a threshold, or it is the filler. -/
theorem Rowwise.below [NeZero n] {S : Fin 384 → Set EReal} {v : FVec Ideal (Rows n) .f32} (hv : Rowwise S v) (m : FVec Ideal S384x1 .f32) (r : Fin 384) :
    In (S r) (below hr hb v m (ix2 r 0)) := by
  rw [below_at]; exact in_next (fun k => hv r k) _

/-- The sizes of a row's entries, as a set. -/
def rowSet (b : Vec Ideal S1x384x8192 .f32) (r : Fin 384) : Set EReal := Set.range (sizes (k0_pay10 b) r)

/-- The first quarter's sizes are sizes of the row, -/
theorem row11 (b : Vec Ideal S1x384x8192 .f32) : Rowwise (n := 2048) (rowSet b) (k0_pay11 b) := fun r k => by
  refine .inr ⟨⟨k.val, by omega⟩, Eq.symm ?_⟩
  pointwise [k0_pay11]
  rfl
/-- the second's, -/
theorem row12 (b : Vec Ideal S1x384x8192 .f32) : Rowwise (n := 2048) (rowSet b) (k0_pay12 b) := fun r k => by
  refine .inr ⟨⟨2048 + k.val, by omega⟩, Eq.symm ?_⟩
  pointwise [k0_pay12]
  rfl
/-- the third's, -/
theorem row13 (b : Vec Ideal S1x384x8192 .f32) : Rowwise (n := 2048) (rowSet b) (k0_pay13 b) := fun r k => by
  refine .inr ⟨⟨4096 + k.val, by omega⟩, Eq.symm ?_⟩
  pointwise [k0_pay13]
  rfl
/-- and the fourth's. -/
theorem row14 (b : Vec Ideal S1x384x8192 .f32) : Rowwise (n := 2048) (rowSet b) (k0_pay14 b) := fun r k => by
  refine .inr ⟨⟨6144 + k.val, by omega⟩, Eq.symm ?_⟩
  pointwise [k0_pay14]
  rfl
/-- So is the largest of four, -/
theorem row19 (b : Vec Ideal S1x384x8192 .f32) : Rowwise (n := 2048) (rowSet b) (k0_pay19 b) := ((row11 b).max (row12 b)).max ((row13 b).max (row14 b))
/-- the smaller of the two larger ones, -/
theorem row20 (b : Vec Ideal S1x384x8192 .f32) : Rowwise (n := 2048) (rowSet b) (k0_pay20 b) := ((row11 b).max (row12 b)).min ((row13 b).max (row14 b))
/-- the larger of the two smaller ones, -/
theorem row21 (b : Vec Ideal S1x384x8192 .f32) : Rowwise (n := 2048) (rowSet b) (k0_pay21 b) := ((row11 b).min (row12 b)).max ((row13 b).min (row14 b))
/-- and the smallest. -/
theorem row22 (b : Vec Ideal S1x384x8192 .f32) : Rowwise (n := 2048) (rowSet b) (k0_pay22 b) := ((row11 b).min (row12 b)).min ((row13 b).min (row14 b))

/-- A choice between entries of a set is one. -/
theorem in_dite {S : Set EReal} {p : Prop} [Decidable p] {x : p → EReal} {y : ¬ p → EReal} (hx : ∀ h, In S (x h)) (hy : ∀ h, In S (y h)) :
    In S (if h : p then x h else y h) := by
  by_cases h : p
  · rw [dif_pos h]; exact hx h
  · rw [dif_neg h]; exact hy h

/-- Ten columns side by side, each with entries of its row, have entries of their row. -/
theorem beside (S : Fin 384 → Set EReal) (x0 x1 x2 x3 x4 x5 x6 x7 x8 x9 : FVec Ideal S384x1 .f32)
    (h : ∀ x ∈ [x0, x1, x2, x3, x4, x5, x6, x7, x8, x9], ∀ r, In (S r) (x (ix2 r 0))) :
    Rowwise (n := 10) S (concatenate S384x10 1 [⟨S384x1, x0⟩, ⟨S384x1, x1⟩, ⟨S384x1, x2⟩, ⟨S384x1, x3⟩, ⟨S384x1, x4⟩,
      ⟨S384x1, x5⟩, ⟨S384x1, x6⟩, ⟨S384x1, x7⟩, ⟨S384x1, x8⟩, ⟨S384x1, x9⟩] concatenates_S384x1_S384x1_S384x1_S384x1_S384x1_S384x1_S384x1_S384x1_S384x1_S384x1_S384x10_d1) := by
  intro r k
  have h' : ∀ x ∈ [x0, x1, x2, x3, x4, x5, x6, x7, x8, x9], ∀ r (q : Fin 1), In (S r) (x (ix2 r q)) :=
    fun x hx r q => by rw [Subsingleton.elim q 0]; exact h x hx r
  clear h
  simp only [List.forall_mem_cons] at h'
  obtain ⟨h0, h1, h2, h3, h4, h5, h6, h7, h8, h9, -⟩ := h'
  pointwise
  exact in_dite (fun _ => h0 r _) (fun _ => in_dite (fun _ => h1 r _) (fun _ => in_dite (fun _ => h2 r _) (fun _ => in_dite (fun _ => h3 r _) (fun _ =>
    in_dite (fun _ => h4 r _) (fun _ => in_dite (fun _ => h5 r _) (fun _ => in_dite (fun _ => h6 r _) (fun _ => in_dite (fun _ => h7 r _) (fun _ =>
    in_dite (fun _ => h8 r _) (fun _ => h9 r _)))))))))

/-- The ten candidates of each row. -/
def cand (b : Vec Ideal S1x384x8192 .f32) : FVec Ideal S384x10 .f32 :=
  k0_pay25 (k0_pay19 b) (k0_pay20 b) (k0_pay21 b) (k0_pay22 b) (k0_pay23 b) (k0_pay24 b)

/-- A column after `k` steps down the rows of `v`. -/
def steps (v : FVec Ideal (Rows n) .f32) : ℕ → FVec Ideal S384x1 .f32
  | 0 => tops hr v
  | k + 1 => below hr hb v (steps v k)

/-- The array of the `k`th thresholds holds each row's `k`th threshold. -/
theorem steps_at (v : FVec Ideal (Rows n) .f32) (r : Fin 384) : ∀ k, steps hr hb v k (ix2 r 0) = thr (fun i => v (ix2 r i)) k
  | 0 => tops_at hr v r
  | k + 1 => by rw [steps, below_at, steps_at v r k]; rfl

/-- A row's `k`th threshold is in its set, or it is the filler. -/
theorem Rowwise.steps [NeZero n] {S : Fin 384 → Set EReal} {v : FVec Ideal (Rows n) .f32} (hv : Rowwise S v) (k : ℕ) (r : Fin 384) :
    In (S r) (steps hr hb v k (ix2 r 0)) := by
  rw [steps_at]; exact in_thr (fun i => hv r i) k

/-- The candidates are sizes of their row, or −1 or less. -/
theorem row_cand (b : Vec Ideal S1x384x8192 .f32) : Rowwise (n := 10) (rowSet b) (cand b) := by
  have hh := (row19 b).steps reduces_S384x2048_S384 broadcasts_S384x1_S384x2048
  have hl := (row20 b).steps reduces_S384x2048_S384 broadcasts_S384x1_S384x2048
  have lh := (row21 b).steps reduces_S384x2048_S384 broadcasts_S384x1_S384x2048
  have ll := (row22 b).steps reduces_S384x2048_S384 broadcasts_S384x1_S384x2048
  refine beside (rowSet b) _ _ _ _ _ _ _ _ _ _ ?_
  simp only [List.forall_mem_cons]
  exact ⟨hh 0, hh 1, hh 2, hh 3, hh 4, hl 0, hl 1, lh 0, lh 1, ll 0, by simp⟩

/-- The first call marks the entries no smaller than the fifth threshold of the candidates. -/
theorem mk0_iff (b : Vec Ideal S1x384x8192 .f32) (r : Fin 384) (j : Fin 8192) :
    mk0 b (ix2 r j) = 1#1 ↔ thr (fun i => cand b (ix2 r i)) 4 ≤ sizes (k0_pay10 b) r j := by
  have h : mk0 b = cmpf .oge (absf (k0_pay10 b)) (broadcastTo S384x8192 (steps (n := 10) reduces_S384x10_S384 broadcasts_S384x1_S384x10 (cand b) 4) broadcasts_S384x1_S384x8192) := rfl
  have h' : ∀ (x y : FVec Ideal S384x8192 .f32) i, cmpf .oge x y i = 1#1 ↔ y i ≤ x i := by
    intro x y i
    have e : cmpf .oge x y i = Ideal.cmp .oge (x i) (y i) := rfl
    rw [e]; unfold Ideal.cmp
    by_cases h : y i ≤ x i <;> simp [h]
  rw [h, h', spread_at (n := 8192), steps_at]
  rfl
/-- At least five entries of each row are marked. -/
theorem five_le (b : Vec Ideal S1x384x8192 .f32) (r : Fin 384) : 5 ≤ (Finset.univ.filter fun j => mk0 b (ix2 r j) = 1#1).card := by
  simp only [mk0_iff]
  exact card_thr _ _ (sizes_nonneg _ r) (fun i => row_cand b r i) 4 (by norm_num)
/-- Where exactly five are, they are the first five. -/
theorem mk0_top (b : Vec Ideal S1x384x8192 .f32) (r : Fin 384) (h : (Finset.univ.filter fun j => mk0 b (ix2 r j) = 1#1).card = 5) (j : Fin 8192) :
    mk0 b (ix2 r j) = 1#1 ↔ Top (sizes (k0_pay10 b) r) 5 j := by
  simp only [mk0_iff] at h ⊢
  exact top_of_upper _ 5 (by norm_num) _ h j
end Cert.KernelIdeal.Hand
end
-- ==== Proof.Value.lean ====
/-
  The values both programs compute, by rows: a row's correlations with the unit columns of the dictionary, its first five, and what reconstruction from those
  differs from the row by.
-/
module

public import proofs.«01_k».proof.Proof.Pure
public import Idealize.ShloMosaic.Lib.Pointwise

@[expose] public section
noncomputable section
namespace Cert.Sparse
open Idealize.ShloMosaic

/-- The dictionary with its columns divided by their lengths. -/
def unit (G : Fin 32 → Fin 8192 → EReal) (d : Fin 32) (j : Fin 8192) : EReal :=
  Ideal.div (G d j) (Ideal.sqrt (∑ k, G k j * G k j) + Ideal.ofBits .f32 0x2EDBE6FF#32)
/-- A row's correlations with the columns. -/
def corr (D : Fin 32 → Fin 8192 → EReal) (z : Fin 32 → EReal) (j : Fin 8192) : EReal := ∑ d, z d * D d j
/-- Their sizes. -/
def size (c : Fin 8192 → EReal) (j : Fin 8192) : EReal := max (c j) (-(c j))
/-- The coefficients kept: those of the first five. -/
def coef (c : Fin 8192 → EReal) (j : Fin 8192) : EReal :=
  open Classical in if Top (size c) 5 j then c j else 0
/-- What the reconstruction differs from the row by. -/
def diff (D : Fin 32 → Fin 8192 → EReal) (z : Fin 32 → EReal) (d : Fin 32) : EReal := (∑ j, coef (corr D z) j * D d j) - z d

/-- A product with a choice or zero. -/
theorem choose_mul {p : Prop} [Decidable p] (x y : EReal) : (if p then x else 0) * y = if p then x * y else 0 := by
  by_cases h : p <;> simp [h]

/-- A count of marks as an extended real. -/
theorem count {n : ℕ} (p : Fin n → Prop) [DecidablePred p] : (∑ j, if p j then (1 : EReal) else 0) = (((Finset.univ.filter p).card : ℕ) : EReal) := by
  rw [Finset.sum_boole]

/-- A choice by a bit. -/
theorem sel_if {α : Type} (b : BitVec 1) (x y : α) : Scalar.select b x y = if b = 1#1 then x else y := rfl
/-- A sum of the products that are marked, as the products of the factors that are. -/
theorem sum_marked {n : ℕ} (m : Fin n → BitVec 1) (p : Fin n → Prop) (h : ∀ j, m j = 1#1 ↔ p j) (x y : Fin n → EReal) :
    (∑ j, Scalar.select (m j) (x j * y j) 0) = ∑ j, (open Classical in if p j then x j else 0) * y j := by
  classical
  refine Finset.sum_congr rfl fun j _ => ?_
  rw [choose_mul, sel_if]
  by_cases h1 : m j = 1#1
  · rw [if_pos h1, if_pos ((h j).mp h1)]
  · rw [if_neg h1, if_neg fun t => h1 ((h j).mpr t)]
/-- A sum of ones at the marks. -/
theorem sum_ones {n : ℕ} (m : Fin n → BitVec 1) : (∑ j, Scalar.select (m j) (1 : EReal) 0) = (((Finset.univ.filter fun j => m j = 1#1).card : ℕ) : EReal) := by
  rw [← count]
  refine Finset.sum_congr rfl fun j _ => ?_
  rw [sel_if]
/-- Counts of rows, each at least five, are five a row and what is beyond. -/
theorem sum_spare {n : ℕ} (k : Fin n → ℕ) (h : ∀ r, 5 ≤ k r) : (∑ r, k r) = 5 * n + ∑ r, (k r - 5) := by
  rw [Finset.sum_congr rfl fun r _ => (Nat.add_sub_of_le (h r)).symm, Finset.sum_add_distrib]
  simp [mul_comm]
/-- Eight times a number, an eighth of it, less another. -/
theorem eighth (k m : ℕ) (e : ℕ) (h : k = m + e) : (∑ _q : Fin 8, (k : EReal)) * (((1 / 8 : ℝ)) : EReal) - (((m : ℕ) : ℝ) : EReal) = ((e : ℝ) : EReal) := by
  subst h
  rw [Fin.sum_univ_eight, ← EReal.coe_natCast (n := m + e)]
  simp only [← EReal.coe_add, ← EReal.coe_mul, ← EReal.coe_sub]
  congr 1
  push_cast
  ring

/-- Every row counted eight times: the count of the rows beyond five. -/
theorem eighths {n : ℕ} (k : Fin n → ℕ) (h : ∀ r, 5 ≤ k r) (m : ℕ) (hm : m = 5 * n) :
    (∑ r, ∑ _q : Fin 8, (k r : EReal)) * (((1 / 8 : ℝ)) : EReal) - (((m : ℕ) : ℝ) : EReal) = (((∑ r, (k r - 5) : ℕ) : ℝ) : EReal) := by
  subst hm
  rw [Finset.sum_comm, ← eighth _ _ _ (sum_spare k h), Nat.cast_sum]

/-- The loss in the two forms the programs give it, where the sum of squares is not negative. -/
theorem loss_eq (S : EReal) (hS : 0 ≤ S) :
    Ideal.div (((1.25 : ℝ) : EReal) * S) ((147456 : ℝ) : EReal) = Ideal.div S ((147456 : ℝ) : EReal) + ((0.25 : ℝ) : EReal) * Ideal.div S ((147456 : ℝ) : EReal) := by
  have hd : ∀ x, Ideal.div x ((147456 : ℝ) : EReal) = x * (((147456 : ℝ)⁻¹ : ℝ) : EReal) := fun x => by
    unfold Ideal.div
    rw [if_neg (by rw [← EReal.coe_zero, EReal.coe_eq_coe_iff]; norm_num), ← EReal.coe_inv]
  rw [hd, hd]
  induction S with
  | bot => exact absurd hS (by simp)
  | top => rw [EReal.coe_mul_top_of_pos (by norm_num), EReal.top_mul_coe_of_pos (by norm_num), EReal.coe_mul_top_of_pos (by norm_num)]; rfl
  | coe s =>
    simp only [← EReal.coe_add, ← EReal.coe_mul]
    congr 1
    ring
/-- A sum of squares is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)
end Cert.Sparse
end
-- ==== Proof.Blocks.lean ====
/-
  What a block's operations compute, entry by entry.
-/
module

public import proofs.«01_k».proof.Proof.Marks
public import proofs.«01_k».proof.Proof.Value

@[expose] public section
noncomputable section
namespace Cert.KernelIdeal.Hand
open Cert.KernelIdeal Cert.KernelIdeal.Gen
open Idealize.ShloMosaic
open Cert.Sparse

/-- The second call's operations on a block are the first's, at its own marks. -/
theorem q_same (dn : Vec Ideal S32x8192 .f32) (b : Vec Ideal S1x384x8192 .f32) (x : Vec Ideal S384x32 .f32) :
    qB1 dn b x = k0_pay3 dn (k0_pay10 b) (mk1 b) x := rfl
/-- So is its loss. -/
theorem l_same (dn : Vec Ideal S32x8192 .f32) (b : Vec Ideal S1x384x8192 .f32) (x : Vec Ideal S384x32 .f32) (l : Vec Ideal S1x1 .f32) :
    lB1 dn b x l = k0_pay4 dn (k0_pay10 b) (mk1 b) x l := rfl
/-- So is its dictionary. -/
theorem dn_same (g : Vec Ideal S32x8192 .f32) : k1_pay2 g = k0_pay5 g := rfl
/-- The correlations of the first block are computed as those of the others. -/
theorem first_same (dn : Vec Ideal S32x8192 .f32) (x : Vec Ideal S384x32 .f32) : k0_pay8 x dn = k0_pay9 dn x := rfl
/-- So are the second call's. -/
theorem first_same1 (dn : Vec Ideal S32x8192 .f32) (x : Vec Ideal S384x32 .f32) : k1_pay5 x dn = k0_pay9 dn x := rfl
/-- And those it computes ahead. -/
theorem ahead_same (dn : Vec Ideal S32x8192 .f32) (x : Vec Ideal S384x32 .f32) : k1_pay6 dn x = k0_pay9 dn x := rfl

/-- The dictionary with unit columns. -/
theorem dn_at (g : Vec Ideal S32x8192 .f32) (d : Fin 32) (j : Fin 8192) : k0_pay5 g (ix2 d j) = unit (fun d j => g (ix2 d j)) d j := by
  pointwise [k0_pay5]
  rfl
/-- The correlations of a block. -/
theorem corr_at (dn : Vec Ideal S32x8192 .f32) (x : Vec Ideal S384x32 .f32) (r : Fin 384) (j : Fin 8192) :
    k0_pay10 (k0_pay9 dn x) (ix2 r j) = corr (fun d j => dn (ix2 d j)) (fun d => x (ix2 r d)) j := by
  pointwise [k0_pay10, k0_pay9]
  rfl
/-- Their sizes. -/
theorem sizes_at (dn : Vec Ideal S32x8192 .f32) (x : Vec Ideal S384x32 .f32) (r : Fin 384) :
    sizes (k0_pay10 (k0_pay9 dn x)) r = size (corr (fun d j => dn (ix2 d j)) (fun d => x (ix2 r d))) := by
  funext j
  unfold sizes size
  rw [corr_at]
/-- What a block's reconstruction differs from the block by, where the marks are the first five of each row. -/
theorem diff_at (dn : Vec Ideal S32x8192 .f32) (x : Vec Ideal S384x32 .f32) (m : IVec S384x8192 1)
    (hm : ∀ r j, m (ix2 r j) = 1#1 ↔ Top (sizes (k0_pay10 (k0_pay9 dn x)) r) 5 j) (r : Fin 384) (d : Fin 32) :
    k0_pay2 dn (k0_pay10 (k0_pay9 dn x)) m x (ix2 r d) = diff (fun d j => dn (ix2 d j)) (fun d => x (ix2 r d)) d := by
  have h : k0_pay2 dn (k0_pay10 (k0_pay9 dn x)) m x (ix2 r d)
      = ∑ j, Scalar.select (m (ix2 r j)) (k0_pay10 (k0_pay9 dn x) (ix2 r j) * dn (ix2 d j)) 0 - x (ix2 r d) := by
    pointwise [k0_pay2, k0_pay1]
  have hr := hm r
  rw [sizes_at] at hr
  rw [h, sum_marked _ _ hr]
  unfold diff coef
  simp only [corr_at]
/-- The first result's block. -/
theorem q_at (dn : Vec Ideal S32x8192 .f32) (c : FVec Ideal S384x8192 .f32) (m : IVec S384x8192 1) (x : Vec Ideal S384x32 .f32) (r : Fin 384) (d : Fin 32) :
    k0_pay3 dn c m x (ix2 r d) = x (ix2 r d) + k0_pay2 dn c m x (ix2 r d) := by
  pointwise [k0_pay3, k0_pay1]
/-- The loss after a block. -/
theorem l_at (dn : Vec Ideal S32x8192 .f32) (c : FVec Ideal S384x8192 .f32) (m : IVec S384x8192 1) (x : Vec Ideal S384x32 .f32) (l : Vec Ideal S1x1 .f32) :
    k0_pay4 dn c m x l (ix2 0 0) = l (ix2 0 0) + ∑ r : Fin 384, ∑ d : Fin 32, k0_pay2 dn c m x (ix2 r d) * k0_pay2 dn c m x (ix2 r d) := by
  pointwise [k0_pay4]

/-- The literal 1/8. -/
theorem lit_eighth : Ideal.ofBits .f32 0x3E000000#32 = ((1 / 8 : ℝ) : EReal) := by
  simp [Ideal.ofBits, Ideal.ieee]
  rw [← EReal.coe_mul]
  norm_num
/-- The literal 1920. -/
theorem lit_1920 : Ideal.ofBits .f32 0x44F00000#32 = (((1920 : ℕ) : ℝ) : EReal) := by
  simp [Ideal.ofBits, Ideal.ieee]
  rw [← EReal.coe_mul]
  norm_num

/-- The marks of a row, counted. -/
def marks (b : Vec Ideal S1x384x8192 .f32) (r : Fin 384) : ℕ := (Finset.univ.filter fun j => mk0 b (ix2 r j) = 1#1).card
/-- The marks of a block beyond five a row. -/
def spare (b : Vec Ideal S1x384x8192 .f32) : ℕ := ∑ r, (marks b r - 5)

/-- The operations that count a block's marks. -/
theorem n_at (c : FVec Ideal S384x8192 .f32) (a e : FVec Ideal S384x10 .f32) (n : Vec Ideal S1x1 .f32) : k0_pay28 c a e n (ix2 0 0)
    = n (ix2 0 0) + ((∑ r : Fin 384, ∑ _q : Fin 8, ∑ j : Fin 8192, Scalar.select (k0_pay27 c a e (ix2 r j)) 1 0) * Ideal.ofBits .f32 0x3E000000#32
      - Ideal.ofBits .f32 0x44F00000#32) := by
  pointwise [k0_pay28]
/-- The first call's count after a block: the count before it and the block's marks beyond five a row. -/
theorem c_at (b : Vec Ideal S1x384x8192 .f32) (n : Vec Ideal S1x1 .f32) : cB0 b n (ix2 0 0) = n (ix2 0 0) + ((spare b : ℝ) : EReal) := by
  have h : cB0 b n (ix2 0 0) = _ := n_at _ _ _ n
  rw [h, lit_eighth, lit_1920]
  have e := eighths (marks b) (five_le b) 1920 (by norm_num)
  unfold spare
  rw [← e]
  simp only [sum_ones]
  rfl

/-- Where no row has a mark beyond five, the marks are the first five of each row. -/
theorem top_of_spare (b : Vec Ideal S1x384x8192 .f32) (h : spare b = 0) (r : Fin 384) (j : Fin 8192) :
    mk0 b (ix2 r j) = 1#1 ↔ Top (sizes (k0_pay10 b) r) 5 j := by
  refine mk0_top b r ?_ j
  have := (Finset.sum_eq_zero_iff.mp h) r (Finset.mem_univ r)
  have h5 := five_le b r
  unfold marks at this
  omega
end Cert.KernelIdeal.Hand
end
-- ==== Proof.Grid.lean ====
/-
  The two calls' results over the whole grid.
-/
module

public import proofs.«01_k».proof.Proof.Region0
public import proofs.«01_k».proof.Proof.Region1
public import proofs.«01_k».proof.Proof.Blocks
public import Idealize.ShloMosaic.Lib.Pipeline.ValueKit

@[expose] public section
noncomputable section
namespace Cert.KernelIdeal.Hand
open Cert.KernelIdeal Cert.KernelIdeal.Gen
open Idealize.ShloMosaic
open Idealize.ShloMosaic.TcCoe Idealize.ShloMosaic.Tactic
open Cert.Sparse

variable (V : (c : Dev nD) → (b : Ref sig .tc) → Buf (Elt Ideal) ((c : Thread nD τ).loc b))

/-- Row `r` of block `t`. -/
def row (t : Fin 12) (r : Fin 384) : Fin 4608 := ⟨384 * t.val + r.val, by omega⟩
/-- The rows the calls read. -/
def zed (c : Dev nD) (R : Fin 4608) (d : Fin 32) : EReal := V c main_v0 (ix2 R d)
/-- The dictionary the calls read. -/
def dic (c : Dev nD) (d : Fin 32) (j : Fin 8192) : EReal := V c main_arg1 (ix2 d j)

/-- The first window reads the next block of rows, the last point the first block, -/
theorem ix0_0 : ∀ t : Fin grid0.N, win0_0.index t = ![(t.val + 1) % 12, 0] := by decide +kernel
/-- the second the point's own block, -/
theorem ix0_1 : ∀ t : Fin grid0.N, win0_1.index t = ![t.val, 0] := by decide +kernel
/-- the third the whole dictionary, -/
theorem ix0_2 : ∀ t : Fin grid0.N, win0_2.index t = ![0, 0] := by decide +kernel
/-- and the fourth writes the point's own block. -/
theorem ix0_3 : ∀ t : Fin grid0.N, win0_3.index t = ![t.val, 0] := by decide +kernel

/-- The rows of the point's own block, in the whole array. -/
theorem xs0_at (c : Dev nD) (t : Fin cfg0.N) (r : Fin 384) (d : Fin 32) (h : t.val < 12) : xs0 V c t (ix2 r d) = zed V c (row ⟨t.val, h⟩ r) d := by
  unfold zed
  blk_simp [xs0]
  refine congrArg (V c main_v0) ?_
  blk_ext [ix0_1, row, ix2]
/-- The rows of the next block, in the whole array. -/
theorem nx0_at (c : Dev nD) (t : Fin cfg0.N) (r : Fin 384) (d : Fin 32) : nx0 V c t (ix2 r d) = zed V c (row ⟨(t.val + 1) % 12, Nat.mod_lt _ (by norm_num)⟩ r) d := by
  unfold zed
  blk_simp [nx0]
  refine congrArg (V c main_v0) ?_
  blk_ext [ix0_0, row, ix2]
/-- The dictionary that a point reads is the whole dictionary. -/
theorem ds0_at (c : Dev nD) (t : Fin cfg0.N) (d : Fin 32) (j : Fin 8192) : ds0 V c t (ix2 d j) = dic V c d j := by
  unfold dic
  blk_simp [ds0]
  refine congrArg (V c main_arg1) ?_
  blk_ext [ix0_2, ix2]

/-- What a row's result is. -/
def quant (c : Dev nD) (R : Fin 4608) (d : Fin 32) : EReal := zed V c R d + diff (unit (dic V c)) (zed V c R) d
/-- What a row adds to the loss. -/
def miss (c : Dev nD) (R : Fin 4608) : EReal := ∑ d, diff (unit (dic V c)) (zed V c R) d * diff (unit (dic V c)) (zed V c R) d

/-- A block's results and loss, where its marks are the first five of each row. -/
theorem block_at (D : Fin 32 → Fin 8192 → EReal) (z : Fin 384 → Fin 32 → EReal) (dn : Vec Ideal S32x8192 .f32) (x : Vec Ideal S384x32 .f32) (m : IVec S384x8192 1)
    (hD : ∀ d j, dn (ix2 d j) = D d j) (hz : ∀ r d, x (ix2 r d) = z r d)
    (hm : ∀ r j, m (ix2 r j) = 1#1 ↔ Top (sizes (k0_pay10 (k0_pay9 dn x)) r) 5 j) :
    (∀ r d, k0_pay3 dn (k0_pay10 (k0_pay9 dn x)) m x (ix2 r d) = z r d + diff D (z r) d)
      ∧ ∀ l, k0_pay4 dn (k0_pay10 (k0_pay9 dn x)) m x l (ix2 0 0) = l (ix2 0 0) + ∑ r, ∑ d, diff D (z r) d * diff D (z r) d := by
  have e : ∀ r d, k0_pay2 dn (k0_pay10 (k0_pay9 dn x)) m x (ix2 r d) = diff D (z r) d := by
    intro r d
    rw [diff_at dn x m hm]
    simp only [hD, hz]
  refine ⟨fun r d => ?_, fun l => ?_⟩
  · rw [q_at, e, hz]
  · rw [l_at]
    simp only [e]

/-- The rows, block by block. -/
theorem sum_rows (f : Fin 4608 → EReal) : (∑ t : Fin 12, ∑ r : Fin 384, f (row t r)) = ∑ R, f R := by
  rw [← Fintype.sum_prod_type' (f := fun t r => f (row t r))]
  refine Fintype.sum_equiv (finProdFinEquiv (m := 12) (n := 384)) _ _ fun p => ?_
  congr 1
  refine Fin.ext ?_
  show 384 * p.1.val + p.2.val = p.2.val + 384 * p.1.val
  omega

/-- A total kept from point to point. -/
theorem total (l : ℕ → EReal) (f : ℕ → EReal) (h0 : l 0 = 0 + f 0) (hs : ∀ n, n + 1 < 12 → l (n + 1) = l n + f (n + 1)) :
    ∀ n, n < 12 → l n = ∑ t ∈ Finset.range (n + 1), f t
  | 0, _ => by rw [h0, zero_add]; simp
  | n + 1, h => by rw [hs n h, total l f h0 hs n (by omega), Finset.sum_range_succ _ (n + 1)]

/-- Block `n` of the first call. -/
theorem cr0_eq (c : Dev nD) (n : ℕ) (hn : n < 12) : cr0 V c n = k0_pay9 (dn0 V c) (xs0 V c (pnt0 n)) := by
  cases n with
  | zero => rfl
  | succ n =>
    show k0_pay9 (dn0 V c) (nx0 V c (pnt0 n)) = _
    congr 1
    funext i
    idx_vars i
    have e1 : (pnt0 n).val = n := Nat.mod_eq_of_lt (by omega)
    have e2 : (pnt0 (n + 1)).val = n + 1 := Nat.mod_eq_of_lt hn
    rw [nx0_at, xs0_at V c _ _ _ (by omega)]
    congr 2
    refine Fin.ext ?_
    show ((pnt0 n).val + 1) % 12 = (pnt0 (n + 1)).val
    rw [e1, e2]; omega
/-- The first call's dictionary. -/
theorem dn0_at (c : Dev nD) (d : Fin 32) (j : Fin 8192) : dn0 V c (ix2 d j) = unit (dic V c) d j := by
  unfold dn0
  rw [dn_at]
  simp only [ds0_at]

/-- The marks beyond five a row in the first call. -/
def extra (c : Dev nD) : ℕ := ∑ t ∈ Finset.range 12, spare (cr0 V c t)

/-- The first call's count. -/
theorem ct0_at (c : Dev nD) : ct0 V c 11 (ix2 0 0) = ((extra V c : ℝ) : EReal) := by
  rw [total (fun n => ct0 V c n (ix2 0 0)) (fun n => ((spare (cr0 V c n) : ℝ) : EReal)) ?_ ?_ 11 (by norm_num)]
  · unfold extra
    simp only [EReal.coe_natCast]
    rw [Nat.cast_sum]
  · show cB0 _ _ _ = _
    rw [c_at]
    congr 1
    exact Ideal.ofBits_zero_f32
  · intro n _
    exact c_at _ _

/-- A block's results in the first call, where no row of it has a mark beyond five. -/
theorem blk0 (c : Dev nD) (t : Fin 12) (h : spare (cr0 V c t.val) = 0) :
    (∀ r d, qB0 (dn0 V c) (cr0 V c t.val) (xs0 V c (pnt0 t.val)) (ix2 r d) = quant V c (row t r) d)
      ∧ ∀ l, lB0 (dn0 V c) (cr0 V c t.val) (xs0 V c (pnt0 t.val)) l (ix2 0 0) = l (ix2 0 0) + ∑ r, miss V c (row t r) := by
  have hm := top_of_spare _ h
  unfold qB0 lB0
  rw [cr0_eq V c t.val t.isLt] at hm ⊢
  have e : (pnt0 t.val).val = t.val := Nat.mod_eq_of_lt t.isLt
  have hx : ∀ r d, xs0 V c (pnt0 t.val) (ix2 r d) = zed V c (row t r) d := fun r d => by
    rw [xs0_at V c _ _ _ (by omega), show (⟨(pnt0 t.val).val, by omega⟩ : Fin 12) = t from Fin.ext e]
  exact block_at (unit (dic V c)) (fun r => zed V c (row t r)) _ _ _ (dn0_at V c) hx hm

/-- Where no row of any block has more than five marks, none of one block has. -/
theorem spare_zero (c : Dev nD) (h : extra V c = 0) (t : Fin 12) : spare (cr0 V c t.val) = 0 :=
  Finset.sum_eq_zero_iff.mp h t.val (Finset.mem_range.mpr t.isLt)

/-- A point of the grid by its number. -/
def num (n : ℕ) : Fin 12 := ⟨n % 12, Nat.mod_lt _ (by norm_num)⟩
/-- A small number is the number of its block. -/
theorem num_val (n : ℕ) (h : n < 12) : (num n).val = n := Nat.mod_eq_of_lt h

/-- The loss over the grid from the loss over a block. -/
theorem loss_total (c : Dev nD) (l : ℕ → EReal) (h0 : l 0 = 0 + ∑ r, miss V c (row (num 0) r))
    (hs : ∀ n, n + 1 < 12 → l (n + 1) = l n + ∑ r, miss V c (row (num (n + 1)) r)) : l 11 = ∑ R, miss V c R := by
  rw [total l (fun n => ∑ r, miss V c (row (num n) r)) h0 hs 11 (by norm_num), ← sum_rows, Finset.sum_range]
  refine Finset.sum_congr rfl fun t _ => ?_
  rw [show num t.val = t from Fin.ext (num_val _ t.isLt)]

/-- The first call's loss. -/
theorem ls0_at (c : Dev nD) (h : extra V c = 0) : ls0 V c 11 (ix2 0 0) = ∑ R, miss V c R := by
  have hb := fun t => (blk0 V c t (spare_zero V c h t)).2
  refine loss_total V c (fun n => ls0 V c n (ix2 0 0)) ?_ fun n hn => ?_
  · rw [← Ideal.ofBits_zero_f32]
    exact hb (num 0) _
  · have := hb (num (n + 1)) (ls0 V c n)
    rw [num_val _ hn] at this
    exact this
end Cert.KernelIdeal.Hand
end
-- ==== Proof.Final.lean ====
/-
  The arrays the two calls leave.
-/
module

public import proofs.«01_k».proof.Proof.Grid

@[expose] public section
noncomputable section
namespace Cert.KernelIdeal.Hand
open Cert.KernelIdeal Cert.KernelIdeal.Gen
open Idealize.ShloMosaic
open Idealize.ShloMosaic.TcCoe Idealize.ShloMosaic.Tactic
open Cert.Sparse

variable (V : (c : Dev nD) → (b : Ref sig .tc) → Buf (Elt Ideal) ((c : Thread nD τ).loc b))

/-- The blocks of the first result cover its array. -/
theorem cov0_3 : (cfg0.win 3).Covers := by decide +kernel
/-- The loss's window is its whole array at the last point. -/
theorem who0_4 : (cfg0.win 4).WholeAt (pnt0 11) := by decide +kernel
/-- So is the count's. -/
theorem who0_5 : (cfg0.win 5).WholeAt (pnt0 11) := by decide +kernel

/-- The rows' results as an array. -/
def quantArr (c : Dev nD) : S4608x32.Idx → EReal := fun i => quant V c (i 0) (i 1)

/-- What the body leaves of the first result at a point, by rows. -/
theorem after0_3 (c : Dev nD) (h : extra V c = 0) (t : Fin cfg0.N) (hN : t.val < 12) (r : Fin 384) (d : Fin 32) :
    qB0 (dn0 V c) (cr0 V c t.val) (xs0 V c t) (ix2 r d) = quant V c (row ⟨t.val, hN⟩ r) d := by
  have hb := (blk0 V c ⟨t.val, hN⟩ (spare_zero V c h ⟨t.val, hN⟩)).1
  rw [pnt0_val] at hb
  exact hb r d
/-- Where the block of a point lies. -/
theorem emb0_3 (t : Fin cfg0.N) (hN : t.val < 12) (y : S384x32.Idx) : (win0_3.blk t).view.emb y = (ix2 (row ⟨t.val, hN⟩ (y 0)) (y 1) : S4608x32.Idx) := by
  blk_ext [ix0_3, row, ix2]

/-- The first call's first result, where no row has a mark beyond five. -/
theorem out0_3 (c : Dev nD) (h : extra V c = 0) : out0 V c 3 = quantArr V c := by
  refine (dat0 V c).arrAt_eq_of_covers 3 _ cov0_3 fun t hf y => ?_
  blk_simp
  have hN : t.val < 12 := lt_of_lt_of_eq t.isLt N_0
  refine Eq.trans ?_ (congrArg (quantArr V c) (emb0_3 t hN y)).symm
  refine Eq.trans ?_ (after0_3 V c h t hN (y 0) (y 1))
  exact congrArg (qB0 (dn0 V c) (cr0 V c t.val) (xs0 V c t)) (ix2_eta y).symm

/-- The only place of an array of one number. -/
theorem one_idx (y : S1x1.Idx) : y = ix2 0 0 := by
  funext a
  fin_cases a <;> exact Subsingleton.elim (α := Fin 1) _ _

/-- The last point's number. -/
theorem last0 : (pnt0 11).val = 11 := by decide +kernel

/-- The loss after a point. -/
theorem after0_4 (c : Dev nD) (t : Fin cfg0.N) : (dat0 V c).after 4 t = ls0 V c t.val := rfl
/-- The count after a point. -/
theorem after0_5 (c : Dev nD) (t : Fin cfg0.N) : (dat0 V c).after 5 t = ct0 V c t.val := rfl
/-- What the last point leaves of the loss is the loss's array. -/
theorem last0_4 (c : Dev nD) (X : S1x1.Idx → EReal) (h : (dat0 V c).after 4 (pnt0 11) = X) : out0 V c 4 = X := by
  refine (dat0 V c).arrAt_eq_of_after_last 4 (pnt0 11) who0_4 _ fun j => ?_
  rw [h]
  rfl
/-- What the last point leaves of the count is the count's array. -/
theorem last0_5 (c : Dev nD) (X : S1x1.Idx → EReal) (h : (dat0 V c).after 5 (pnt0 11) = X) : out0 V c 5 = X := by
  refine (dat0 V c).arrAt_eq_of_after_last 5 (pnt0 11) who0_5 _ fun j => ?_
  rw [h]
  rfl
/-- The first call's loss as an array. -/
theorem out0_4 (c : Dev nD) : out0 V c 4 = ls0 V c 11 := last0_4 V c _ ((after0_4 V c _).trans (congrArg (ls0 V c) last0))
/-- The first call's count as an array. -/
theorem out0_5 (c : Dev nD) : out0 V c 5 = ct0 V c 11 := last0_5 V c _ ((after0_5 V c _).trans (congrArg (ct0 V c) last0))
end Cert.KernelIdeal.Hand
end
-- ==== Proof.Grid1.lean ====
/-
  The second call's results over the whole grid, and the arrays it leaves.
-/
module

public import proofs.«01_k».proof.Proof.Final

@[expose] public section
noncomputable section
namespace Cert.KernelIdeal.Hand
open Cert.KernelIdeal Cert.KernelIdeal.Gen
open Idealize.ShloMosaic
open Idealize.ShloMosaic.TcCoe Idealize.ShloMosaic.Tactic
open Cert.Sparse

variable (V : (c : Dev nD) → (b : Ref sig .tc) → Buf (Elt Ideal) ((c : Thread nD τ).loc b))

/-- The second call's first window reads the next block of rows, the last point the first block, -/
theorem ix1_0 : ∀ t : Fin grid1.N, win1_0.index t = ![(t.val + 1) % 12, 0] := by decide +kernel
/-- its second the point's own block, -/
theorem ix1_1 : ∀ t : Fin grid1.N, win1_1.index t = ![t.val, 0] := by decide +kernel
/-- its third the whole dictionary, -/
theorem ix1_2 : ∀ t : Fin grid1.N, win1_2.index t = ![0, 0] := by decide +kernel
/-- and its fourth writes the point's own block. -/
theorem ix1_3 : ∀ t : Fin grid1.N, win1_3.index t = ![t.val, 0] := by decide +kernel
/-- The blocks of the first result cover its array. -/
theorem cov1_3 : (cfg1.win 3).Covers := by decide +kernel
/-- The loss's window is its whole array at the last point. -/
theorem who1_4 : (cfg1.win 4).WholeAt (pnt1 11) := by decide +kernel
/-- The last point's number. -/
theorem last1 : (pnt1 11).val = 11 := by decide +kernel

/-- The second call's rows at a point. -/
theorem xs1_at (c : Dev nD) (t : Fin cfg1.N) (r : Fin 384) (d : Fin 32) (h : t.val < 12) : xs1 V c t (ix2 r d) = zed V c (row ⟨t.val, h⟩ r) d := by
  unfold zed
  blk_simp [xs1]
  refine congrArg (V c main_v0) ?_
  blk_ext [ix1_1, row, ix2]
/-- The next point's. -/
theorem nx1_at (c : Dev nD) (t : Fin cfg1.N) (r : Fin 384) (d : Fin 32) : nx1 V c t (ix2 r d) = zed V c (row ⟨(t.val + 1) % 12, Nat.mod_lt _ (by norm_num)⟩ r) d := by
  unfold zed
  blk_simp [nx1]
  refine congrArg (V c main_v0) ?_
  blk_ext [ix1_0, row, ix2]
/-- The dictionary it reads. -/
theorem ds1_at (c : Dev nD) (t : Fin cfg1.N) (d : Fin 32) (j : Fin 8192) : ds1 V c t (ix2 d j) = dic V c d j := by
  unfold dic
  blk_simp [ds1]
  refine congrArg (V c main_arg1) ?_
  blk_ext [ix1_2, ix2]

/-- Block `n` of the second call. -/
theorem cr1_eq (c : Dev nD) (n : ℕ) (hn : n < 12) : cr1 V c n = k0_pay9 (dn1 V c) (xs1 V c (pnt1 n)) := by
  cases n with
  | zero => exact first_same1 _ _
  | succ n =>
    refine (ahead_same (dn1 V c) (nx1 V c (pnt1 n))).trans ?_
    congr 1
    funext i
    idx_vars i
    have e1 : (pnt1 n).val = n := Nat.mod_eq_of_lt (by omega)
    have e2 : (pnt1 (n + 1)).val = n + 1 := Nat.mod_eq_of_lt hn
    rw [nx1_at, xs1_at V c _ _ _ (by omega)]
    congr 2
    refine Fin.ext ?_
    show ((pnt1 n).val + 1) % 12 = (pnt1 (n + 1)).val
    rw [e1, e2]; omega
/-- The second call's dictionary. -/
theorem dn1_at (c : Dev nD) (d : Fin 32) (j : Fin 8192) : dn1 V c (ix2 d j) = unit (dic V c) d j := by
  unfold dn1
  rw [dn_same, dn_at]
  simp only [ds1_at]

/-- A block's results in the second call. -/
theorem blk1 (c : Dev nD) (t : Fin 12) :
    (∀ r d, qB1 (dn1 V c) (cr1 V c t.val) (xs1 V c (pnt1 t.val)) (ix2 r d) = quant V c (row t r) d)
      ∧ ∀ l, lB1 (dn1 V c) (cr1 V c t.val) (xs1 V c (pnt1 t.val)) l (ix2 0 0) = l (ix2 0 0) + ∑ r, miss V c (row t r) := by
  have hm := mk1_iff (cr1 V c t.val)
  simp only [q_same, l_same]
  rw [cr1_eq V c t.val t.isLt] at hm ⊢
  have e : (pnt1 t.val).val = t.val := Nat.mod_eq_of_lt t.isLt
  have hx : ∀ r d, xs1 V c (pnt1 t.val) (ix2 r d) = zed V c (row t r) d := fun r d => by
    rw [xs1_at V c _ _ _ (by omega), show (⟨(pnt1 t.val).val, by omega⟩ : Fin 12) = t from Fin.ext e]
  exact block_at (unit (dic V c)) (fun r => zed V c (row t r)) _ _ _ (dn1_at V c) hx hm

/-- The second call's loss. -/
theorem ls1_at (c : Dev nD) : ls1 V c 11 (ix2 0 0) = ∑ R, miss V c R := by
  have hb := fun t => (blk1 V c t).2
  refine loss_total V c (fun n => ls1 V c n (ix2 0 0)) ?_ fun n hn => ?_
  · rw [← Ideal.ofBits_zero_f32]
    exact hb (num 0) _
  · have := hb (num (n + 1)) (ls1 V c n)
    rw [num_val _ hn] at this
    exact this

/-- What the body leaves of the first result at a point, by rows. -/
theorem after1_3 (c : Dev nD) (t : Fin cfg1.N) (hN : t.val < 12) (r : Fin 384) (d : Fin 32) :
    qB1 (dn1 V c) (cr1 V c t.val) (xs1 V c t) (ix2 r d) = quant V c (row ⟨t.val, hN⟩ r) d := by
  have hb := (blk1 V c ⟨t.val, hN⟩).1
  rw [pnt1_val] at hb
  exact hb r d
/-- Where the block of a point lies. -/
theorem emb1_3 (t : Fin cfg1.N) (hN : t.val < 12) (y : S384x32.Idx) : (win1_3.blk t).view.emb y = (ix2 (row ⟨t.val, hN⟩ (y 0)) (y 1) : S4608x32.Idx) := by
  blk_ext [ix1_3, row, ix2]
/-- The second call's first result. -/
theorem out1_3 (c : Dev nD) : out1 V c 3 = quantArr V c := by
  refine (dat1 V c).arrAt_eq_of_covers 3 _ cov1_3 fun t hf y => ?_
  blk_simp
  have hN : t.val < 12 := lt_of_lt_of_eq t.isLt N_1
  refine Eq.trans ?_ (congrArg (quantArr V c) (emb1_3 t hN y)).symm
  refine Eq.trans ?_ (after1_3 V c t hN (y 0) (y 1))
  exact congrArg (qB1 (dn1 V c) (cr1 V c t.val) (xs1 V c t)) (ix2_eta y).symm
/-- The loss after a point. -/
theorem after1_4 (c : Dev nD) (t : Fin cfg1.N) : (dat1 V c).after 4 t = ls1 V c t.val := rfl
/-- What the last point leaves of the loss is the loss's array. -/
theorem last1_4 (c : Dev nD) (X : S1x1.Idx → EReal) (h : (dat1 V c).after 4 (pnt1 11) = X) : out1 V c 4 = X := by
  refine (dat1 V c).arrAt_eq_of_after_last 4 (pnt1 11) who1_4 _ fun j => ?_
  rw [h]
  rfl
/-- The second call's loss as an array. -/
theorem out1_4 (c : Dev nD) : out1 V c 4 = ls1 V c 11 := last1_4 V c _ ((after1_4 V c _).trans (congrArg (ls1 V c) last1))
end Cert.KernelIdeal.Hand
end
-- ==== Proof.Out.lean ====
/-
  The program's two results in terms of its arguments.
-/
module

public import proofs.«01_k».proof.Proof.Grid1
public import proofs.«01_k».proof.Proof.Frame

@[expose] public section
noncomputable section
namespace Cert.KernelIdeal.Hand
open Cert.KernelIdeal Cert.KernelIdeal.Gen
open Idealize.ShloMosaic
open Idealize.ShloMosaic.TcCoe Idealize.ShloMosaic.Tactic
open Idealize.ShloMosaic.StableHlo (after)
open Cert.Sparse

variable (m : (ℓ : Loc nD τ sig) → Buf (Elt Ideal) ℓ)

/-- What the rows and the dictionary are decides the first result, -/
theorem quantArr_congr (V V' : (c : Dev nD) → (b : Ref sig .tc) → Buf (Elt Ideal) ((c : Thread nD τ).loc b)) (c : Dev nD)
    (h0 : V c main_v0 = V' c main_v0) (h1 : V c main_arg1 = V' c main_arg1) : quantArr V c = quantArr V' c := by
  unfold quantArr quant zed dic
  rw [h0, h1]
/-- and the loss. -/
theorem miss_congr (V V' : (c : Dev nD) → (b : Ref sig .tc) → Buf (Elt Ideal) ((c : Thread nD τ).loc b)) (c : Dev nD)
    (h0 : V c main_v0 = V' c main_v0) (h1 : V c main_arg1 = V' c main_arg1) : miss V c = miss V' c := by
  funext R
  unfold miss zed dic
  rw [h0, h1]

/-- The operations between the calls leave the rows. -/
theorem W4_v0 (c : Dev nD) : W4 m c main_v0 = W1 m c main_v0 := by
  have h2 : W2 m c (Proc.devRef .tc main_v0) = W1 m c (Proc.devRef .tc main_v0) := put3_ne _ _ _ _ _ (by decide) (by decide) (by decide)
  refine Eq.trans ?_ h2
  unfold W4 W3
  after_results
/-- And the dictionary. -/
theorem W4_arg1 (c : Dev nD) : W4 m c main_arg1 = W1 m c main_arg1 := by
  have h2 : W2 m c (Proc.devRef .tc main_arg1) = W1 m c (Proc.devRef .tc main_arg1) := put3_ne _ _ _ _ _ (by decide) (by decide) (by decide)
  refine Eq.trans ?_ h2
  unfold W4 W3
  after_results
/-- And the first call's results. -/
theorem W4_v1_0 (c : Dev nD) : W4 m c main_v1_0 = out0 (at' (W1 m)) c 3 := by
  have h2 : W2 m c (Proc.devRef .tc main_v1_0) = out0 (at' (W1 m)) c 3 := put3_fst _ _ _ _ (by decide) (by decide)
  refine Eq.trans ?_ h2
  unfold W4 W3
  after_results
/-- And its loss. -/
theorem W4_v1_1 (c : Dev nD) : W4 m c main_v1_1 = out0 (at' (W1 m)) c 4 := by
  have h2 : W2 m c (Proc.devRef .tc main_v1_1) = out0 (at' (W1 m)) c 4 := put3_snd _ _ _ _ (by decide)
  refine Eq.trans ?_ h2
  unfold W4 W3
  after_results
/-- The literal 1/2. -/
theorem lit_half : Ideal.ofBits .f32 0x3F000000#32 = ((1 / 2 : ℝ) : EReal) := by
  simp [Ideal.ofBits, Ideal.ieee]
  rw [← EReal.coe_mul]
  norm_num
/-- The literal 1.25. -/
theorem lit_five_quarters : Ideal.ofBits .f32 0x3FA00000#32 = ((1.25 : ℝ) : EReal) := by
  simp [Ideal.ofBits, Ideal.ieee]
  rw [← EReal.coe_mul]
  norm_num
/-- The literal 147456. -/
theorem lit_147456 : Ideal.ofBits .f32 0x48100000#32 = ((147456 : ℝ) : EReal) := by
  simp [Ideal.ofBits, Ideal.ieee]
  rw [← EReal.coe_mul]
  norm_num

/-- The test's operations on a count. -/
theorem test_at (x : S1x1.Idx → EReal) (n : ℕ) (h : x (ix2 0 0) = ((n : ℝ) : EReal)) :
    (extui 32 (cmpf (F := Ideal) (φ := .f32) .ogt (shapeCast S_ x shapeCasts_S1x1_S_) (constant S_ .f32 0x3F000000#32)) natLt_1_32) HostLoop.idx0
      = BitVec.setWidth 32 (BitVec.ofBool (decide ((1 / 2 : ℝ) < n))) := by
  show BitVec.setWidth 32 (Ideal.cmp .ogt (shapeCast S_ x shapeCasts_S1x1_S_ HostLoop.idx0) (Ideal.ofBits .f32 0x3F000000#32)) = _
  rw [lit_half]
  have e : shapeCast S_ x shapeCasts_S1x1_S_ HostLoop.idx0 = x (ix2 0 0) := congrArg x (one_idx _)
  rw [e, h]
  show BitVec.setWidth 32 (BitVec.ofBool (decide (((1 / 2 : ℝ) : EReal) < ((n : ℝ) : EReal)))) = _
  simp only [EReal.coe_lt_coe_iff]
/-- The test from the contents before it. -/
theorem test_read (W : Valuation τ sig (Elt Ideal)) (x : S1x1.Idx → EReal) (hx : W (Proc.devRef .tc main_v1_2) = x) : after [rdOp] (after hostOps1 W) (Proc.devRef .tc main_v4)
    = extui 32 (cmpf (F := Ideal) (φ := .f32) .ogt (shapeCast S_ x shapeCasts_S1x1_S_) (constant S_ .f32 0x3F000000#32)) natLt_1_32 := by
  subst hx
  after_results
  rfl
/-- The word that the branch takes. -/
theorem word_eq (c : Dev nD) : word m c = BitVec.setWidth 32 (BitVec.ofBool (decide ((1 / 2 : ℝ) < extra (at' (W1 m)) c))) := by
  have h2 : W2 m c (Proc.devRef .tc main_v1_2) = ct0 (at' (W1 m)) c 11 := (put3_trd _ _ _ _).trans (out0_5 _ c)
  exact (congrFun (test_read (W2 m c) _ h2) HostLoop.idx0).trans (test_at _ _ (ct0_at _ c))
/-- No mark beyond five a row: the first arm. -/
theorem arm_zero (c : Dev nD) (h : extra (at' (W1 m)) c = 0) : HostLoop.branch (word m c) 1 = 0 := by
  rw [word_eq, h, decide_eq_false (by norm_num)]
  decide
/-- One at least: the second. -/
theorem arm_one (c : Dev nD) (h : extra (at' (W1 m)) c ≠ 0) : HostLoop.branch (word m c) 1 = 1 := by
  have h1 : (1 : ℝ) ≤ extra (at' (W1 m)) c := by exact_mod_cast Nat.one_le_iff_ne_zero.mpr h
  rw [word_eq, decide_eq_true (by linarith)]
  decide

/-- The last operations on the branch's first result, -/
theorem tail_q (W : Valuation τ sig (Elt Ideal)) : after hostOps1_1 W (Proc.devRef .tc main_v9) = shapeCast S8x576x32 (W (Proc.devRef .tc main_v5_0)) shapeCasts_S4608x32_S8x576x32 := by
  after_results
  rfl
/-- and on its second. -/
theorem tail_l (W : Valuation τ sig (Elt Ideal)) (y : EReal) (h : (W (Proc.devRef .tc main_v5_1) : S1x1.Idx → EReal) (ix2 0 0) = y) :
    after hostOps1_1 W (Proc.devRef .tc main_v8) = (fun _ => Ideal.div (((1.25 : ℝ) : EReal) * y) ((147456 : ℝ) : EReal) : S_.Idx → EReal) := by
  rw [← lit_five_quarters, ← lit_147456, ← h]
  after_results
  funext i
  show Ideal.div (Ideal.ofBits .f32 0x3FA00000#32 * _) (Ideal.ofBits .f32 0x48100000#32) = _
  congr 2
  exact congrArg (W (Proc.devRef .tc main_v5_1)) (one_idx _)

/-- The branch's first result. -/
theorem W5_q (c : Dev nD) : W5 m (HostLoop.branch (word m c) 1) c (Proc.devRef .tc main_v5_0) = quantArr (at' (W1 m)) c := by
  by_cases h : extra (at' (W1 m)) c = 0
  · rw [arm_zero m c h]
    have e : after cp0 (W4 m c) (Proc.devRef .tc main_v5_0) = W4 m c (Proc.devRef .tc main_v1_0) := by after_results; rfl
    exact e.trans ((W4_v1_0 m c).trans (out0_3 _ c h))
  · rw [arm_one m c h]
    have e : after cp1 (W4r m c) (Proc.devRef .tc main_v5_0) = W4r m c (Proc.devRef .tc main_case0b1_v10_0) := by after_results; rfl
    have e' : W4r m c (Proc.devRef .tc main_case0b1_v10_0) = out1 (at' (W4 m)) c 3 := put3_fst _ _ _ _ (by decide) (by decide)
    exact e.trans (e'.trans ((out1_3 _ c).trans (quantArr_congr _ _ c (W4_v0 m c) (W4_arg1 m c))))
/-- The branch's second result. -/
theorem W5_l (c : Dev nD) : (W5 m (HostLoop.branch (word m c) 1) c (Proc.devRef .tc main_v5_1) : S1x1.Idx → EReal) (ix2 0 0) = ∑ R, miss (at' (W1 m)) c R := by
  by_cases h : extra (at' (W1 m)) c = 0
  · rw [arm_zero m c h]
    have e : after cp0 (W4 m c) (Proc.devRef .tc main_v5_1) = W4 m c (Proc.devRef .tc main_v1_1) := by after_results; rfl
    exact (congrFun (e.trans ((W4_v1_1 m c).trans (out0_4 _ c))) (ix2 0 0)).trans (ls0_at _ c h)
  · rw [arm_one m c h]
    have e : after cp1 (W4r m c) (Proc.devRef .tc main_v5_1) = W4r m c (Proc.devRef .tc main_case0b1_v10_1) := by after_results; rfl
    have e' : W4r m c (Proc.devRef .tc main_case0b1_v10_1) = out1 (at' (W4 m)) c 4 := put3_snd _ _ _ _ (by decide)
    refine (congrFun (e.trans (e'.trans (out1_4 _ c))) (ix2 0 0)).trans ((ls1_at _ c).trans ?_)
    rw [miss_congr (at' (W4 m)) (at' (W1 m)) c (W4_v0 m c) (W4_arg1 m c)]

/-- The first result at the end. -/
theorem W6_q (c : Dev nD) : W6 m c (Proc.devRef .tc main_v9) = shapeCast S8x576x32 (quantArr (at' (W1 m)) c) shapeCasts_S4608x32_S8x576x32 :=
  (tail_q _).trans (congrArg (fun x : S4608x32.Idx → EReal => shapeCast S8x576x32 x shapeCasts_S4608x32_S8x576x32) (W5_q m c))
/-- The second. -/
theorem W6_l (c : Dev nD) : W6 m c (Proc.devRef .tc main_v8)
    = (fun _ => Ideal.div (((1.25 : ℝ) : EReal) * ∑ R, miss (at' (W1 m)) c R) ((147456 : ℝ) : EReal) : S_.Idx → EReal) :=
  tail_l _ _ (W5_l m c)
end Cert.KernelIdeal.Hand
end
-- ==== Proof.Reference.lean ====
/-
  What the reference computes, entry by entry.
-/
module

public import proofs.«01_k».proof.Proof.Gen.ReferenceIdeal.Run
public import proofs.«01_k».proof.Proof.Value
public import Idealize.ShloMosaic.Lib.Routing.OpsSet
public import Idealize.ShloMosaic.Lib.ReduceAll

@[expose] public section
noncomputable section
namespace Cert.ReferenceIdeal.Hand
open Cert.ReferenceIdeal Cert.ReferenceIdeal.Gen Cert.ReferenceIdeal.Value
open Idealize.ShloMosaic
open Idealize.ShloMosaic.TcCoe Idealize.ShloMosaic.Tactic
open Cert.Sparse

/-- The dictionary with unit columns. -/
def rD (G : FVec Ideal S32x8192 .f32) : FVec Ideal S32x8192 .f32 :=
  Host.divf G (broadcastInDim S32x8192 ![0, 1] bcast_S1x8192_S32x8192_0_1 (addf (Host.sqrt (broadcastInDim S1x8192 ![1] bcast_S8192_S1x8192_1 (Host.reduceAdd (mulf G G) (constant S_ .f32 0x00000000#32) reducesTo_S32x8192_S8192_d0 h_S_))) (broadcastInDim S1x8192 ![] bcast_S_S1x8192 (constant S_ .f32 0x2EDBE6FF#32))))
/-- The correlations. -/
def rC (D : FVec Ideal S32x8192 .f32) (Z : FVec Ideal S4608x32 .f32) : FVec Ideal S4608x8192 .f32 :=
  transpose S4608x8192 [1, 0] (Host.dotGeneral dot_S8192x32_S32x4608_S8192x4608_1_0_0_1_n_n none (transpose S8192x32 [1, 0] D transposes_S32x8192_S8192x32_1_0) (transpose S32x4608 [1, 0] Z transposes_S4608x32_S32x4608_1_0)) transposes_S8192x4608_S4608x8192_1_0
/-- The places of the five largest sizes of each row. -/
def rT (C : FVec Ideal S4608x8192 .f32) : IVec S4608x5 32 :=
  (Host.topK S4608x5 1 (FloatOps.cmpfTotal .gt) (Host.absf C) sliceFits_S4608x8192_S4608x5).2
/-- Those places, a negative one counted from the end. -/
def rW (T : IVec S4608x5 32) : IVec S4608x5 32 :=
  select (cmpi .slt T (broadcastInDim S4608x5 ![] bcast_S_S4608x5 (constantI S_ 32 0#32))) (addi T (broadcastInDim S4608x5 ![] bcast_S_S4608x5 (constantI S_ 32 8192#32))) T
/-- The row of each place. -/
def rR : IVec S4608x1 32 :=
  select (cmpi .slt (broadcastInDim S4608x1 ![0] bcast_S4608_S4608x1_0 (iotaInDim S4608 32 0)) (broadcastInDim S4608x1 ![] bcast_S_S4608x1 (constantI S_ 32 0#32))) (addi (broadcastInDim S4608x1 ![0] bcast_S4608_S4608x1_0 (iotaInDim S4608 32 0)) (broadcastInDim S4608x1 ![] bcast_S_S4608x1 (constantI S_ 32 4608#32))) (broadcastInDim S4608x1 ![0] bcast_S4608_S4608x1_0 (iotaInDim S4608 32 0))
/-- The pairs of row and place. -/
def rI (W : IVec S4608x5 32) : IVec S4608x5x2 32 :=
  concatenate S4608x5x2 2 [⟨S4608x5x1, (broadcastInDim S4608x5x1 ![0, 1] bcast_S4608x5_S4608x5x1_0_1 (broadcastInDim S4608x5 ![0, 1] bcast_S4608x1_S4608x5_0_1 rR))⟩, ⟨S4608x5x1, (broadcastInDim S4608x5x1 ![0, 1] bcast_S4608x5_S4608x5x1_0_1 W)⟩] concatenates_S4608x5x1_S4608x5x1_S4608x5x2_d2
/-- The coefficients at those places. -/
def rV (C : FVec Ideal S4608x8192 .f32) (W : IVec S4608x5 32) : FVec Ideal S4608x5 .f32 :=
  select (Host.reduce IntOp.andi (andi (cmpi .sge (shapeCast _ W shapeCasts_S4608x5_S4608x5x1) (broadcastInDim S4608x5x1 ![] bcast_S_S4608x5x1 (constantI S_ 32 0#32))) (cmpi .sle (shapeCast _ W shapeCasts_S4608x5_S4608x5x1) (broadcastInDim S4608x5x1 ![0, 1, 2] bcast_S1x1x1_S4608x5x1_0_1_2 (broadcastInDim S1x1x1 ![2] bcast_S1_S1x1x1_2 (constantI S1 32 8191#32))))) (constantI S_ 1 1#1) reducesTo_S4608x5x1_S4608x5_d2 h_S_) (Host.gather gather_S4608x8192_S4608x5x1_S4608x5_n_1_0_0_1_2_11 C (shapeCast _ W shapeCasts_S4608x5_S4608x5x1)) (broadcastInDim S4608x5 ![] bcast_S_S4608x5 (constant S_ .f32 0x7FC00000#32))
/-- The coefficients, the others zero. -/
def rS (I : IVec S4608x5x2 32) (U : FVec Ideal S4608x5 .f32) : FVec Ideal S4608x8192 .f32 :=
  Host.scatter scatter_S4608x8192_S4608x5x2_S4608x5_n_01_01_2 (fun _ b => b) (broadcastInDim S4608x8192 ![] bcast_S_S4608x8192 (constant S_ .f32 0x00000000#32)) I U
/-- What the reconstruction differs from the rows by. -/
def rE (D : FVec Ideal S32x8192 .f32) (S : FVec Ideal S4608x8192 .f32) (Z0 : FVec Ideal S8x576x32 .f32) : FVec Ideal S8x576x32 .f32 :=
  subf (shapeCast _ (Host.dotGeneral dot_S4608x8192_S8192x32_S4608x32_1_0_0_1_n_n none S (transpose S8192x32 [1, 0] D transposes_S32x8192_S8192x32_1_0)) shapeCasts_S4608x32_S8x576x32) Z0
/-- All of that from the arguments. -/
def rF (G : FVec Ideal S32x8192 .f32) (Z0 : FVec Ideal S8x576x32 .f32) : FVec Ideal S8x576x32 .f32 :=
  rE (rD G) (rS (rI (rW (rT (rC (rD G) (shapeCast _ Z0 shapeCasts_S8x576x32_S4608x32))))) (rV (rC (rD G) (shapeCast _ Z0 shapeCasts_S8x576x32_S4608x32)) (rW (rT (rC (rD G) (shapeCast _ Z0 shapeCasts_S8x576x32_S4608x32)))))) Z0
/-- The mean of its squares. -/
def rM (E : FVec Ideal S8x576x32 .f32) : FVec Ideal S_ .f32 :=
  Host.divf (Host.reduceAdd (mulf E E) (constant S_ .f32 0x00000000#32) reducesTo_S8x576x32_S_d0_1_2 h_S_) (constant S_ .f32 0x48100000#32)

variable (m : (ℓ : Loc nD τ sig) → Buf (Elt Ideal) ℓ)

/-- The first result's term. -/
theorem res0 (c : Dev nD) : res_out0 m c = addf (m ((c.tc : Thread nD τ).loc main_arg0)) (rF (m ((c.tc : Thread nD τ).loc main_arg1)) (m ((c.tc : Thread nD τ).loc main_arg0))) := rfl
/-- The second's. -/
theorem res1 (c : Dev nD) : res_out1 m c = addf (rM (rF (m ((c.tc : Thread nD τ).loc main_arg1)) (m ((c.tc : Thread nD τ).loc main_arg0)))) (mulf (constant S_ .f32 0x3E800000#32) (rM (rF (m ((c.tc : Thread nD τ).loc main_arg1)) (m ((c.tc : Thread nD τ).loc main_arg0))))) := rfl

/-! ## Entry by entry -/

/-- The dictionary's. -/
theorem rD_at (G : FVec Ideal S32x8192 .f32) (d : Fin 32) (j : Fin 8192) : rD G (ix2 d j) = unit (fun d j => G (ix2 d j)) d j := by
  pointwise [rD]
  rfl
/-- The correlations'. -/
theorem rC_at (D : FVec Ideal S32x8192 .f32) (Z : FVec Ideal S4608x32 .f32) (R : Fin 4608) (j : Fin 8192) :
    rC D Z (ix2 R j) = corr (fun d j => D (ix2 d j)) (fun d => Z (ix2 R d)) j := by
  pointwise [rC]
  unfold corr
  refine Finset.sum_congr rfl fun d _ => mul_comm _ _
/-- The place of the `k`-th size of a row. -/
def place (C : FVec Ideal S4608x8192 .f32) (R : Fin 4608) (k : Fin 5) : Fin 8192 :=
  sortedFrom (fun i j => decide (size (fun j => C (ix2 R j)) j < size (fun j => C (ix2 R j)) i)) ⟨k.val, by omega⟩
/-- A row's index with its place replaced. -/
theorem along_row {a b : ℕ} (r : Fin a) (k i : Fin b) (h : 1 < (⟨2, ![a, b]⟩ : Shape).rank) : Shape.Idx.along (ix2 r k) ⟨1, h⟩ i = ix2 r i := by
  funext q
  fin_cases q <;> rfl
/-- A sort of pairs along the rows, its second array. -/
theorem sorted_at {α β : Type} {a b : ℕ} (cmp : α × β → α × β → BitVec 1) (x : (⟨2, ![a, b]⟩ : Shape).Idx → α) (y : (⟨2, ![a, b]⟩ : Shape).Idx → β) (r : Fin a) (k : Fin b) :
    (Host.sort2 ⟨2, ![a, b]⟩ 1 cmp x y).2 (ix2 r k) = y (ix2 r (sortedFrom (fun i j => cmp (x (ix2 r i), y (ix2 r i)) (x (ix2 r j), y (ix2 r j)) == 1#1) k)) := by
  unfold Host.sort2
  rw [dif_pos (show 1 < (⟨2, ![a, b]⟩ : Shape).rank from Nat.one_lt_two)]
  dsimp only
  have key : ∀ L : Fin b → (⟨2, ![a, b]⟩ : Shape).Idx, L = ix2 r → y (L (sortedFrom (fun i j => cmp (x (L i), y (L i)) (x (L j), y (L j)) == 1#1) k))
      = y (ix2 r (sortedFrom (fun i j => cmp (x (ix2 r i), y (ix2 r i)) (x (ix2 r j), y (ix2 r j)) == 1#1) k)) := by
    rintro _ rfl
    rfl
  exact key (fun i => Shape.Idx.along (ix2 r k) ⟨1, Nat.one_lt_two⟩ i) (funext fun i => along_row r k i Nat.one_lt_two)
/-- The places'. -/
theorem rT_at (C : FVec Ideal S4608x8192 .f32) (R : Fin 4608) (k : Fin 5) : rT C (ix2 R k) = BitVec.ofNat 32 (place C R k).val := by
  have hk : k.val < 8192 := by omega
  have e : ∀ (x : S4608x8192.Idx → EReal) (y : IVec S4608x8192 32), extractStridedSlice S4608x5 (fun _ => 0) (Host.sort2 S4608x8192 1 (fun l r => FloatOps.cmpfTotal (F := Ideal) (φ := .f32) .gt l.1 r.1) x y).2 sliceFits_S4608x8192_S4608x5 (ix2 R k)
      = y (ix2 R (sortedFrom (fun i j => decide (x (ix2 R j) < x (ix2 R i))) ⟨k.val, hk⟩)) := by
    intro x y
    have e2 : extractStridedSlice S4608x5 (fun _ => 0) (Host.sort2 S4608x8192 1 (fun l r => FloatOps.cmpfTotal (F := Ideal) (φ := .f32) .gt l.1 r.1) x y).2 sliceFits_S4608x8192_S4608x5 (ix2 R k)
        = (Host.sort2 S4608x8192 1 (fun l r => FloatOps.cmpfTotal (F := Ideal) (φ := .f32) .gt l.1 r.1) x y).2 (ix2 R ⟨k.val, hk⟩) := by
      generalize (Host.sort2 S4608x8192 1 (fun l r => FloatOps.cmpfTotal (F := Ideal) (φ := .f32) .gt l.1 r.1) x y).2 = w
      pointwise
    rw [e2]
    refine (sorted_at _ x y R ⟨k.val, hk⟩).trans ?_
    congr 3
    funext i j
    rw [Ideal.cmpfTotal_def]
    show (BitVec.ofBool (decide (x (ix2 R j) < x (ix2 R i))) == 1#1) = _
    by_cases h : x (ix2 R j) < x (ix2 R i)
    · rw [decide_eq_true h]; rfl
    · rw [decide_eq_false h]; rfl
  exact e (Host.absf C) fun i => if hd : 1 < S4608x8192.rank then iotaInDim S4608x8192 32 ⟨1, hd⟩ i else 0#32
/-- A place is not negative. -/
theorem rW_at (T : IVec S4608x5 32) (R : Fin 4608) (k : Fin 5) (p : Fin 8192) (h : T (ix2 R k) = BitVec.ofNat 32 p.val) : rW T (ix2 R k) = BitVec.ofNat 32 p.val := by
  have e : rW T (ix2 R k) = Scalar.select (IntOp.cmpi .slt (T (ix2 R k)) 0#32) (IntOp.addi (T (ix2 R k)) 8192#32) (T (ix2 R k)) := by
    pointwise [rW]
  rw [e, h]
  exact Routing.wrap_of_lt _ _ (by rw [BitVec.toNat_ofNat]; omega)
/-- The row's number. -/
theorem rR_at (R : Fin 4608) : rR (ix2 R 0) = BitVec.ofNat 32 R.val := by
  have e : rR (ix2 R 0) = Scalar.select (IntOp.cmpi .slt (BitVec.ofNat 32 R.val) 0#32) (IntOp.addi (BitVec.ofNat 32 R.val) 4608#32) (BitVec.ofNat 32 R.val) := by
    pointwise [rR]
  rw [e]
  exact Routing.wrap_of_lt _ _ (by rw [BitVec.toNat_ofNat]; omega)
/-- The pairs' rows. -/
theorem rI_row (W : IVec S4608x5 32) (R : Fin 4608) (k : Fin 5) : rI W (ix3 R k 0) = rR (ix2 R 0) := by
  pointwise [rI]
/-- The pairs' places. -/
theorem rI_col (W : IVec S4608x5 32) (R : Fin 4608) (k : Fin 5) : rI W (ix3 R k 1) = W (ix2 R k) := by
  pointwise [rI]

/-- A word below 2^31, read signed. -/
theorem word_toInt (n : ℕ) (h : n < 2 ^ 31) : (BitVec.ofNat 32 n).toInt = n := by
  have e : (BitVec.ofNat 32 n).toNat = n := by rw [BitVec.toNat_ofNat]; omega
  rw [BitVec.toInt_eq_toNat_of_lt (by omega), e]

/-- The gather at a row's places. -/
theorem gather_at {α : Type} (x : S4608x8192.Idx → α) (idx : IVec S4608x5x1 32) (R : Fin 4608) (k : Fin 5) (p : Fin 8192) (h : (idx (ix3 R k 0)).toInt = p.val) :
    Host.gather gather_S4608x8192_S4608x5x1_S4608x5_n_1_0_0_1_2_11 x idx (ix2 R k) = x (ix2 R p) := by
  unfold Host.gather
  refine congrArg x ?_
  funext a
  refine Fin.ext ?_
  show GatherDims.start _ (ix2 R k) idx a + GatherDims.batchCoord _ (ix2 R k) a + GatherDims.offCoord _ (ix2 R k) a = _
  fin_cases a
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    exact (dif_pos (List.mem_singleton.mpr rfl : (0 : Fin 2) ∈ [(0 : Fin 2)])).trans rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    refine (dif_pos (List.mem_singleton.mpr rfl : (1 : Fin 2) ∈ [(1 : Fin 2)])).trans ?_
    have e : GatherDims.siIdx gather_S4608x8192_S4608x5x1_S4608x5_n_1_0_0_1_2_11 (ix2 R k) ⟨List.idxOf (1 : Fin 2) [1], by decide⟩ = ix3 R k 0 := by
      funext b
      refine Fin.ext ?_
      fin_cases b <;> rfl
    refine Eq.trans (congrArg (fun q => min (idx q).toInt.toNat _) e) ?_
    show min (idx (ix3 R k 0)).toInt.toNat 8191 = p.val
    rw [h]
    have := p.isLt
    omega

/-- A place within the row passes the bounds' test. -/
theorem inside (p : Fin 8192) : IntOp.andi (IntOp.cmpi .sge (BitVec.ofNat 32 p.val) 0#32) (IntOp.cmpi .sle (BitVec.ofNat 32 p.val) 8191#32) = 1#1 := by
  have hp : p.val < 2 ^ (32 - 1) := by omega
  rw [WordCmp.cmpi_sge_ofNat hp (by norm_num), WordCmp.cmpi_sle_ofNat hp (by norm_num), decide_eq_true (Nat.zero_le _), decide_eq_true (by omega)]
  rfl

/-- The coefficients at the places. -/
theorem rV_at (C : FVec Ideal S4608x8192 .f32) (W : IVec S4608x5 32) (P : Fin 4608 → Fin 5 → Fin 8192) (h : ∀ R k, W (ix2 R k) = BitVec.ofNat 32 (P R k).val)
    (R : Fin 4608) (k : Fin 5) : rV C W (ix2 R k) = C (ix2 R (P R k)) := by
  have hc : ∀ (R : Fin 4608) (k : Fin 5) (q : Fin 1), shapeCast S4608x5x1 W shapeCasts_S4608x5_S4608x5x1 (ix3 R k q) = BitVec.ofNat 32 (P R k).val := by
    intro R k q
    rw [← h R k]
    pointwise
  have hg := gather_at C (shapeCast S4608x5x1 W shapeCasts_S4608x5_S4608x5x1) R k (P R k) (by rw [hc]; exact word_toInt _ (by omega))
  have hm : ∀ i : S4608x5x1.Idx, (andi (cmpi .sge (shapeCast _ W shapeCasts_S4608x5_S4608x5x1) (broadcastInDim S4608x5x1 ![] bcast_S_S4608x5x1 (constantI S_ 32 0#32))) (cmpi .sle (shapeCast _ W shapeCasts_S4608x5_S4608x5x1) (broadcastInDim S4608x5x1 ![0, 1, 2] bcast_S1x1x1_S4608x5x1_0_1_2 (broadcastInDim S1x1x1 ![2] bcast_S1_S1x1x1_2 (constantI S1 32 8191#32))))) i = 1#1 := by
    intro i
    idx_vars i
    refine Eq.trans ?_ (inside (P i0 i1))
    rw [← hc i0 i1 i2]
    rfl
  refine Eq.trans ?_ hg
  unfold rV
  show Scalar.select (Host.reduce IntOp.andi _ _ _ _ (ix2 R k)) _ _ = _
  rw [Host.reduce_andi_one _ _ _ _ _ rfl hm]
  rfl

open Classical in
/-- The array of coefficients. -/
theorem rS_at (C : FVec Ideal S4608x8192 .f32) (I : IVec S4608x5x2 32) (U : FVec Ideal S4608x5 .f32) (P : Fin 4608 → Fin 5 → Fin 8192)
    (hr : ∀ R k, (I (ix3 R k 0)).toInt = R.val) (hc : ∀ R k, (I (ix3 R k 1)).toInt = (P R k).val) (hu : ∀ R k, U (ix2 R k) = C (ix2 R (P R k)))
    (R : Fin 4608) (j : Fin 8192) : rS I U (ix2 R j) = if ∃ k, P R k = j then C (ix2 R j) else 0 := by
  have land : ∀ R' k, scatter_S4608x8192_S4608x5x2_S4608x5_n_01_01_2.resultIdx? (ix2 R' k) I = some (ix2 R j) ↔ R' = R ∧ P R' k = j := by
    intro R' k
    have h := Routing.scatter_lands2 scatter_S4608x8192_S4608x5x2_S4608x5_n_01_01_2 rfl rfl rfl I R' k R j
    simp only [← ix2_eq_valueIdx, ← ix3_eq_valueIdx] at h
    rw [h, hr, hc]
    constructor
    · rintro ⟨a, b⟩
      exact ⟨Fin.ext (by exact_mod_cast a), Fin.ext (by exact_mod_cast b)⟩
    · rintro ⟨rfl, rfl⟩
      exact ⟨rfl, rfl⟩
  unfold rS
  split
  · rename_i h
    obtain ⟨k, hk⟩ := h
    refine Routing.scatter_set_hit _ _ I U _ _ (fun q hq => ?_) (ix2 R k) ((land R k).mpr ⟨rfl, hk⟩)
    idx_vars q
    obtain ⟨rfl, rfl⟩ := (land q0 q1).mp hq
    exact hu q0 q1
  · rename_i h
    rw [Routing.scatter_set_miss]
    · exact Ideal.ofBits_zero_f32
    · intro q hq
      idx_vars q
      obtain ⟨rfl, rfl⟩ := (land q0 q1).mp hq
      exact h ⟨q1, rfl⟩

open Classical in
/-- The coefficients from the correlations. -/
theorem coef_at (C : FVec Ideal S4608x8192 .f32) (R : Fin 4608) (j : Fin 8192) : rS (rI (rW (rT C))) (rV C (rW (rT C))) (ix2 R j) = coef (fun j => C (ix2 R j)) j := by
  have hw : ∀ R k, rW (rT C) (ix2 R k) = BitVec.ofNat 32 (place C R k).val := fun R k => rW_at _ R k _ (rT_at C R k)
  rw [rS_at C _ _ (place C) (fun R k => by rw [rI_row, rR_at]; exact word_toInt _ (by omega)) (fun R k => by rw [rI_col, hw]; exact word_toInt _ (by omega))
    (fun R k => rV_at C _ (place C) hw R k)]
  unfold coef
  refine if_congr ⟨fun ⟨k, hk⟩ => ⟨⟨k.val, by omega⟩, k.isLt, hk⟩, fun ⟨p, hp, hj⟩ => ⟨⟨p.val, hp⟩, hj⟩⟩ rfl rfl

/-- The row of the flat array that a batch and a place in it name. -/
def flat (a : Fin 8) (b : Fin 576) : Fin 4608 := ⟨a.val * 576 + b.val, by omega⟩
/-- What the reconstruction differs by. -/
theorem rE_at (D : FVec Ideal S32x8192 .f32) (S : FVec Ideal S4608x8192 .f32) (Z0 : FVec Ideal S8x576x32 .f32) (a : Fin 8) (b : Fin 576) (d : Fin 32) :
    rE D S Z0 (ix3 a b d) = (∑ j, S (ix2 (flat a b) j) * D (ix2 d j)) - Z0 (ix3 a b d) := by
  pointwise [rE]
  rfl
/-- The flat array's rows. -/
theorem flat_at (Z0 : FVec Ideal S8x576x32 .f32) (a : Fin 8) (b : Fin 576) (d : Fin 32) :
    shapeCast S4608x32 Z0 shapeCasts_S8x576x32_S4608x32 (ix2 (flat a b) d) = Z0 (ix3 a b d) := by
  pointwise
  have ha : (flat a b).val / 576 = a.val := by
    show (a.val * 576 + b.val) / 576 = a.val
    omega
  have hb : (flat a b).val % 576 = b.val := by
    show (a.val * 576 + b.val) % 576 = b.val
    omega
  congr 2
  · exact Fin.ext ha
  · exact Fin.ext hb
/-- All of it from the arguments. -/
theorem rF_at (G : FVec Ideal S32x8192 .f32) (Z0 : FVec Ideal S8x576x32 .f32) (a : Fin 8) (b : Fin 576) (d : Fin 32) :
    rF G Z0 (ix3 a b d) = diff (unit fun d j => G (ix2 d j)) (fun d => Z0 (ix3 a b d)) d := by
  unfold rF
  rw [rE_at]
  simp only [coef_at, rD_at, rC_at, flat_at]
  rfl
/-- The mean of the squares. -/
theorem rM_at (E : FVec Ideal S8x576x32 .f32) (i : S_.Idx) : rM E i = Ideal.div (∑ a : Fin 8, ∑ b : Fin 576, ∑ d : Fin 32, E (ix3 a b d) * E (ix3 a b d)) (Ideal.ofBits .f32 0x48100000#32) := by
  pointwise [rM]

variable (m : (ℓ : Loc nD τ sig) → Buf (Elt Ideal) ℓ)

/-- What one row differs by, from the arguments. -/
def off (G : S32x8192.Idx → EReal) (Z0 : S8x576x32.Idx → EReal) (a : Fin 8) (b : Fin 576) (d : Fin 32) : EReal :=
  diff (unit fun d j => G (ix2 d j)) (fun d => Z0 (ix3 a b d)) d
/-- The sum of the squares. -/
def sumSq (G : S32x8192.Idx → EReal) (Z0 : S8x576x32.Idx → EReal) : EReal := ∑ a, ∑ b, ∑ d, off G Z0 a b d * off G Z0 a b d

/-- The first result's entries. -/
def quantOf (G : S32x8192.Idx → EReal) (Z0 : S8x576x32.Idx → EReal) (a : Fin 8) (b : Fin 576) (d : Fin 32) : EReal := Z0 (ix3 a b d) + off G Z0 a b d
/-- The second result. -/
def lossOf (G : S32x8192.Idx → EReal) (Z0 : S8x576x32.Idx → EReal) : EReal :=
  Ideal.div (sumSq G Z0) (Ideal.ofBits .f32 0x48100000#32) + Ideal.ofBits .f32 0x3E800000#32 * Ideal.div (sumSq G Z0) (Ideal.ofBits .f32 0x48100000#32)

/-- The reference's first result. -/
theorem res0_at (c : Dev nD) (a : Fin 8) (b : Fin 576) (d : Fin 32) :
    res_out0 m c (ix3 a b d) = quantOf (m ((c.tc : Thread nD τ).loc main_arg1)) (m ((c.tc : Thread nD τ).loc main_arg0)) a b d := by
  rw [res0]
  exact congrArg (fun x : EReal => HAdd.hAdd (α := EReal) (m ((c.tc : Thread nD τ).loc main_arg0) (ix3 a b d)) x) (rF_at _ _ a b d)
/-- Its second. -/
theorem res1_at (c : Dev nD) (i : S_.Idx) : res_out1 m c i = lossOf (m ((c.tc : Thread nD τ).loc main_arg1)) (m ((c.tc : Thread nD τ).loc main_arg0)) := by
  rw [res1]
  show rM _ _ + Ideal.ofBits .f32 0x3E800000#32 * rM _ _ = _
  rw [rM_at]
  simp only [rF_at]
  rfl
end Cert.ReferenceIdeal.Hand
end
-- ==== Proof.Equal.lean ====
/-
  The program and the reference compute the same.
-/
module

public import proofs.«01_k».proof.Defs
public import proofs.«01_k».proof.Proof.Out
public import proofs.«01_k».proof.Proof.Reference

@[expose] public section
noncomputable section
namespace Cert.KernelIdeal.Hand
open Cert.KernelIdeal Cert.KernelIdeal.Gen
open Idealize.ShloMosaic
open Idealize.ShloMosaic.TcCoe Idealize.ShloMosaic.Tactic
open Idealize.ShloMosaic.StableHlo (after)
open Cert.Sparse
open Cert.ReferenceIdeal.Hand (flat flat_at off sumSq quantOf lossOf res0_at res1_at)

variable (m : (ℓ : Loc nD τ sig) → Buf (Elt Ideal) ℓ)

/-- The rows the calls read are the first argument's. -/
theorem W1_v0 (c : Dev nD) : W1 m c (Proc.devRef .tc main_v0) = shapeCast S4608x32 (m ((c.tc : Thread nD τ).loc main_arg0)) shapeCasts_S8x576x32_S4608x32 := by
  unfold W1 W0
  after_results
  rfl
/-- The dictionary is the second. -/
theorem W1_arg1 (c : Dev nD) : W1 m c (Proc.devRef .tc main_arg1) = m ((c.tc : Thread nD τ).loc main_arg1) := by
  unfold W1 W0
  after_results
/-- A row's entries. -/
theorem zed_flat (c : Dev nD) (a : Fin 8) (b : Fin 576) : zed (at' (W1 m)) c (flat a b) = fun d => m ((c.tc : Thread nD τ).loc main_arg0) (ix3 a b d) := by
  funext d
  exact (congrFun (W1_v0 m c) (ix2 (flat a b) d)).trans (flat_at _ a b d)
/-- The dictionary's entries. -/
theorem dic_at (c : Dev nD) : dic (at' (W1 m)) c = fun d j => m ((c.tc : Thread nD τ).loc main_arg1) (ix2 d j) := by
  funext d j
  exact congrFun (W1_arg1 m c) (ix2 d j)
/-- A row's difference. -/
theorem diff_flat (c : Dev nD) (a : Fin 8) (b : Fin 576) (d : Fin 32) :
    diff (unit (dic (at' (W1 m)) c)) (zed (at' (W1 m)) c (flat a b)) d = off (m ((c.tc : Thread nD τ).loc main_arg1)) (m ((c.tc : Thread nD τ).loc main_arg0)) a b d := by
  rw [zed_flat, dic_at]
  rfl
/-- A row's first result. -/
theorem quant_flat (c : Dev nD) (a : Fin 8) (b : Fin 576) (d : Fin 32) :
    quant (at' (W1 m)) c (flat a b) d = quantOf (m ((c.tc : Thread nD τ).loc main_arg1)) (m ((c.tc : Thread nD τ).loc main_arg0)) a b d := by
  unfold quant
  rw [diff_flat, zed_flat]
  rfl
/-- The sum over the rows, as one over their pairs of places. -/
theorem sum_flat (f : Fin 4608 → EReal) : ∑ R, f R = ∑ a, ∑ b, f (flat a b) := by
  rw [← Fintype.sum_prod_type' (f := fun a b => f (flat a b))]
  refine (Fintype.sum_equiv (finProdFinEquiv (m := 8) (n := 576)) _ _ fun p => ?_).symm
  congr 1
  refine Fin.ext ?_
  show p.1.val * 576 + p.2.val = p.2.val + 576 * p.1.val
  omega
/-- The whole loss. -/
theorem miss_total (c : Dev nD) : ∑ R, miss (at' (W1 m)) c R = sumSq (m ((c.tc : Thread nD τ).loc main_arg1)) (m ((c.tc : Thread nD τ).loc main_arg0)) := by
  rw [sum_flat]
  unfold sumSq miss
  simp only [diff_flat]
/-- The literal 1/4. -/
theorem lit_quarter : Ideal.ofBits .f32 0x3E800000#32 = ((0.25 : ℝ) : EReal) := by
  simp [Ideal.ofBits, Ideal.ieee]
  rw [← EReal.coe_mul]
  norm_num
/-- A sum of squares is not negative. -/
theorem total_nonneg (G : S32x8192.Idx → EReal) (Z0 : S8x576x32.Idx → EReal) : 0 ≤ sumSq G Z0 :=
  Finset.sum_nonneg fun _ _ => Finset.sum_nonneg fun _ _ => Finset.sum_nonneg fun _ _ => sq_nonneg' _

/-- The first result, entry by entry. -/
theorem W6_q_at (c : Dev nD) (a : Fin 8) (b : Fin 576) (d : Fin 32) :
    W6 m c (Proc.devRef .tc main_v9) (ix3 a b d) = quantOf (m ((c.tc : Thread nD τ).loc main_arg1)) (m ((c.tc : Thread nD τ).loc main_arg0)) a b d := by
  refine (congrFun (W6_q m c) (ix3 a b d)).trans (Eq.trans ?_ (quant_flat m c a b d))
  have e : shapeCast S8x576x32 (quantArr (at' (W1 m)) c) shapeCasts_S4608x32_S8x576x32 (ix3 a b d) = quantArr (at' (W1 m)) c (ix2 (flat a b) d) := by
    pointwise
    rfl
  exact e
/-- The second. -/
theorem W6_l_at (c : Dev nD) (i : S_.Idx) :
    W6 m c (Proc.devRef .tc main_v8) i = lossOf (m ((c.tc : Thread nD τ).loc main_arg1)) (m ((c.tc : Thread nD τ).loc main_arg0)) := by
  refine (congrFun (W6_l m c) i).trans ?_
  unfold lossOf
  rw [miss_total, lit_147456, lit_quarter]
  exact loss_eq _ (total_nonneg _ _)
end Cert.KernelIdeal.Hand

namespace Cert.Proof
open Idealize.ShloMosaic Idealize.SL.Sem
open Idealize.ShloMosaic.TcCoe Idealize.ShloMosaic.Tactic
open Cert.ReferenceIdeal.Hand (res0_at res1_at)
open Cert.KernelIdeal.Hand (W6 run mem_uc W6_arg W6_q_at W6_l_at)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h0 h1
/-- The two first results. -/
theorem same0 : Cert.ReferenceIdeal.Value.res_out0 m' c = W6 m c (Proc.devRef .tc Cert.KernelIdeal.main_v9) := by
  funext y
  idx_vars y
  rw [res0_at, h0, h1]
  exact (W6_q_at m c _ _ _).symm
/-- The two second results. -/
theorem same1 : Cert.ReferenceIdeal.Value.res_out1 m' c = W6 m c (Proc.devRef .tc Cert.KernelIdeal.main_v8) := by
  funext y
  rw [res1_at, h0, h1]
  exact (W6_l_at m c _).symm
end

/-- From memories that agree on the arguments both programs end with equal results. -/
theorem equal : algebraic_KernelIdeal_ReferenceIdeal (hKernelIdeal := Cert.KernelIdeal.Gen.facts) (hReferenceIdeal := Cert.ReferenceIdeal.Gen.facts) := fun m g m' g' _ ha =>
  ⟨fun c => W6 m c (Proc.devRef .tc Cert.KernelIdeal.main_v9), fun c => W6 m c (Proc.devRef .tc Cert.KernelIdeal.main_v8),
    (θ_run Cert.KernelIdeal.defs _ _).mono (fun r h c => ⟨h.1 c _ (mem_uc _ (by decide)), h.1 c _ (mem_uc _ (by decide)),
      (h.1 c _ (mem_uc _ (by decide))).trans (W6_arg m _ (.inl rfl) c), (h.1 c _ (mem_uc _ (by decide))).trans (W6_arg m _ (.inr rfl) c)⟩) (run m g),
    (θ_run Cert.ReferenceIdeal.defs _ _).mono (fun r h c => ⟨(h c).1.trans (same0 m m' c (ha c).1 (ha c).2), (h c).2.1.trans (same1 m m' c (ha c).1 (ha c).2),
      (h c).2.2.1, (h c).2.2.2⟩) (Cert.ReferenceIdeal.Value.run m' g')⟩
end Cert.Proof
end
-- ==== Proof.lean ====
/-
  Every claim of the certificate, from the modules of this directory.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KFrame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends, its arguments unchanged and every semaphore at zero: it has none. -/
theorem frame_R : quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) _⟩) (Cert.ReferenceIdeal.Value.run m g)

/-- Every claim of the certificate. -/
theorem claim : Cert.Claim := ⟨Cert.Kernel.Gen.facts, Cert.KernelIdeal.Gen.facts, Cert.ReferenceIdeal.Gen.facts,
  frame_K, fun m g _ => Cert.KernelIdeal.Hand.frame m g, frame_R, trivial, equal⟩

end Cert.Proof

end
